-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v96)) (v1 : (c : Dev Cert.KernelIdeal.nD) → Buf (Elt Ideal) ((c.tc : Thread Cert.KernelIdeal.nD Cert.KernelIdeal.τ).loc Cert.KernelIdeal.main_v99)) (v2 : (c : Dev Cert.KernelIdeal.nD) → Buf (Elt Ideal) ((c.tc : Thread Cert.KernelIdeal.nD Cert.KernelIdeal.τ).loc Cert.KernelIdeal.main_v94)) (v3 : (c : Dev Cert.KernelIdeal.nD) → Buf (Elt Ideal) ((c.tc : Thread Cert.KernelIdeal.nD Cert.KernelIdeal.τ).loc Cert.KernelIdeal.main_v94)) (v4 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_v99) = v1 c
          ∧ r.2.mem ((c.tc : Thread Cert.KernelIdeal.nD Cert.KernelIdeal.τ).loc Cert.KernelIdeal.main_v94) = v2 c
          ∧ r.2.mem ((c.tc : Thread Cert.KernelIdeal.nD Cert.KernelIdeal.τ).loc Cert.KernelIdeal.main_v94) = v3 c
          ∧ r.2.mem ((c.tc : Thread Cert.KernelIdeal.nD Cert.KernelIdeal.τ).loc Cert.KernelIdeal.main_v93) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v80) = v3 c
          ∧ r.2.mem ((c.tc : Thread Cert.ReferenceIdeal.nD Cert.ReferenceIdeal.τ).loc Cert.ReferenceIdeal.main_v99) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16x65536x3 : Shape := ⟨3, ![16, 65536, 3]⟩
abbrev S16x131072x3 : Shape := ⟨3, ![16, 131072, 3]⟩
abbrev S_ : Shape := ⟨0, ![]⟩

class Facts : Prop where
  bcast_S_S16x131072x3 : S_.BroadcastsInDim S16x131072x3 (![] : Fin 0 → Fin S16x131072x3.rank)
  reducesTo_S16x131072x3_S_d0_1_2 : S16x131072x3.ReducesTo [0, 1, 2] S_
  h_S_ : 0 < S_.numel

variable [Facts]

def fn {F : FTy → Type} [FloatOps F] (main_arg0 : FVec F S16x65536x3 .f32) (main_arg1 : IVec S16x131072x3 32) : IVec S_ 1 :=
  let main_c : IVec S_ 32 := constantI S_ 32 0#32
  let main_v0 : IVec S16x131072x3 32 := broadcastInDim S16x131072x3 ![] bcast_S_S16x131072x3 main_c
  let main_v1 : IVec S16x131072x3 1 := cmpi .sge main_arg1 main_v0
  let main_c_0 : IVec S_ 32 := constantI S_ 32 65536#32
  let main_v2 : IVec S16x131072x3 32 := broadcastInDim S16x131072x3 ![] bcast_S_S16x131072x3 main_c_0
  let main_v3 : IVec S16x131072x3 1 := cmpi .slt main_arg1 main_v2
  let main_v4 : IVec S16x131072x3 1 := andi main_v1 main_v3
  let main_c_1 : IVec S_ 1 := constantI S_ 1 1#1
  let main_v5 : IVec S_ 1 := (fun x v => Host.reduce IntOp.andi x v reducesTo_S16x131072x3_S_d0_1_2 h_S_) main_v4 main_c_1
  main_v5
-- ==== Kernel.lean ====
abbrev S16x65536x3 : Shape := ⟨3, ![16, 65536, 3]⟩
abbrev S16x131072x3 : Shape := ⟨3, ![16, 131072, 3]⟩
abbrev S_ : Shape := ⟨0, ![]⟩
abbrev S65536x3 : Shape := ⟨2, ![65536, 3]⟩
abbrev S1x65536x3 : Shape := ⟨3, ![1, 65536, 3]⟩
abbrev S16x65536x1 : Shape := ⟨3, ![16, 65536, 1]⟩
abbrev S16x65536 : Shape := ⟨2, ![16, 65536]⟩
abbrev S16x1x65536 : Shape := ⟨3, ![16, 1, 65536]⟩
abbrev S1x2048x1 : Shape := ⟨3, ![1, 2048, 1]⟩
abbrev S1x1x2048 : Shape := ⟨3, ![1, 1, 2048]⟩
abbrev S2048x1 : Shape := ⟨2, ![2048, 1]⟩
abbrev S1x2048 : Shape := ⟨2, ![1, 2048]⟩
abbrev S2048x2048 : Shape := ⟨2, ![2048, 2048]⟩
abbrev S2048 : Shape := ⟨1, ![2048]⟩
abbrev S1x2048x2048 : Shape := ⟨3, ![1, 2048, 2048]⟩
abbrev S1 : Shape := ⟨1, ![1]⟩
abbrev S1x1x1 : Shape := ⟨3, ![1, 1, 1]⟩
abbrev S16 : Shape := ⟨1, ![16]⟩
abbrev S16x1 : Shape := ⟨2, ![16, 1]⟩
abbrev S16x65536x2 : Shape := ⟨3, ![16, 65536, 2]⟩
abbrev S16x131072x3x1 : Shape := ⟨4, ![16, 131072, 3, 1]⟩
abbrev S16x131072x3x3 : Shape := ⟨4, ![16, 131072, 3, 3]⟩
abbrev S16x131072x9 : Shape := ⟨3, ![16, 131072, 9]⟩
abbrev S16x9x131072 : Shape := ⟨3, ![16, 9, 131072]⟩
abbrev S1x9x131072 : Shape := ⟨3, ![1, 9, 131072]⟩
abbrev S9x131072 : Shape := ⟨2, ![9, 131072]⟩
abbrev S1x131072 : Shape := ⟨2, ![1, 131072]⟩
abbrev S131072 : Shape := ⟨1, ![131072]⟩
abbrev S16x131072x1 : Shape := ⟨3, ![16, 131072, 1]⟩
abbrev S16x131072 : Shape := ⟨2, ![16, 131072]⟩
abbrev S16x1x131072 : Shape := ⟨3, ![16, 1, 131072]⟩
abbrev S16x131072x2 : Shape := ⟨3, ![16, 131072, 2]⟩
abbrev S16x1179648 : Shape := ⟨2, ![16, 1179648]⟩
abbrev S16x9216x128 : Shape := ⟨3, ![16, 9216, 128]⟩
abbrev S1x9216x128 : Shape := ⟨3, ![1, 9216, 128]⟩
abbrev S16x1179650 : Shape := ⟨2, ![16, 1179650]⟩

abbrev nBuf : Space → Nat
  | .hbm => 122
  | .vmem => 36
  | .smem => 0
  | _ => 0

abbrev bufTy : (tb : Table) → Fin (tcTables nBuf tb) → BufTy
  | .hbm, ⟨0, _⟩ => ⟨S16x65536x3, .f32⟩
  | .hbm, ⟨1, _⟩ => ⟨S16x131072x3, .i32⟩
  | .hbm, ⟨2, _⟩ => ⟨S_, .f32⟩
  | .hbm, ⟨3, _⟩ => ⟨S65536x3, .f32⟩
  | .hbm, ⟨4, _⟩ => ⟨S_, .f32⟩
  | .hbm, ⟨5, _⟩ => ⟨S65536x3, .f32⟩
  | .hbm, ⟨6, _⟩ => ⟨S65536x3, .f32⟩
  | .hbm, ⟨7, _⟩ => ⟨S_, .f32⟩
  | .hbm, ⟨8, _⟩ => ⟨S65536x3, .f32⟩
  | .hbm, ⟨9, _⟩ => ⟨S65536x3, .f32⟩
  | .hbm, ⟨10, _⟩ => ⟨S65536x3, .f32⟩
  | .hbm, ⟨11, _⟩ => ⟨S_, .f32⟩
  | .hbm, ⟨12, _⟩ => ⟨S_, .f32⟩
  | .hbm, ⟨13, _⟩ => ⟨S1x65536x3, .f32⟩
  | .hbm, ⟨14, _⟩ => ⟨S16x65536x3, .f32⟩
  | .hbm, ⟨15, _⟩ => ⟨S16x65536x3, .f32⟩
  | .hbm, ⟨16, _⟩ => ⟨S16x65536x3, .f32⟩
  | .hbm, ⟨17, _⟩ => ⟨S16x65536x3, .f32⟩
  | .hbm, ⟨18, _⟩ => ⟨S16x65536x1, .f32⟩
  | .hbm, ⟨19, _⟩ => ⟨S16x65536, .f32⟩
  | .hbm, ⟨20, _⟩ => ⟨S16x65536x1, .f32⟩
  | .hbm, ⟨21, _⟩ => ⟨S16x65536, .f32⟩
  | .hbm, ⟨22, _⟩ => ⟨S16x65536x1, .f32⟩
  | .hbm, ⟨23, _⟩ => ⟨S16x65536, .f32⟩
  | .hbm, ⟨24, _⟩ => ⟨S16x65536x1, .f32⟩
  | .hbm, ⟨25, _⟩ => ⟨S16x65536x1, .f32⟩
  | .hbm, ⟨26, _⟩ => ⟨S16x65536x1, .f32⟩
  | .hbm, ⟨27, _⟩ => ⟨S16x1x65536, .f32⟩
  | .hbm, ⟨28, _⟩ => ⟨S16x1x65536, .f32⟩
  | .hbm, ⟨29, _⟩ => ⟨S16x1x65536, .f32⟩
  | .hbm, ⟨30, _⟩ => ⟨S16x65536x1, .i32⟩
  | .hbm, ⟨31, _⟩ => ⟨S16x65536, .i32⟩
  | .hbm, ⟨32, _⟩ => ⟨S_, .f32⟩
  | .hbm, ⟨33, _⟩ => ⟨S16x65536x3, .f32⟩
  | .hbm, ⟨34, _⟩ => ⟨S16, .i32⟩
  | .hbm, ⟨35, _⟩ => ⟨S16x1, .i32⟩
  | .hbm, ⟨36, _⟩ => ⟨S_, .i32⟩
  | .hbm, ⟨37, _⟩ => ⟨S16x1, .i32⟩
  | .hbm, ⟨38, _⟩ => ⟨S16x1, .i1⟩
  | .hbm, ⟨39, _⟩ => ⟨S_, .i32⟩
  | .hbm, ⟨40, _⟩ => ⟨S16x1, .i32⟩
  | .hbm, ⟨41, _⟩ => ⟨S16x1, .i32⟩
  | .hbm, ⟨42, _⟩ => ⟨S16x1, .i32⟩
  | .hbm, ⟨43, _⟩ => ⟨S_, .i32⟩
  | .hbm, ⟨44, _⟩ => ⟨S16x65536, .i32⟩
  | .hbm, ⟨45, _⟩ => ⟨S16x65536, .i1⟩
  | .hbm, ⟨46, _⟩ => ⟨S_, .i32⟩
  | .hbm, ⟨47, _⟩ => ⟨S16x65536, .i32⟩
  | .hbm, ⟨48, _⟩ => ⟨S16x65536, .i32⟩
  | .hbm, ⟨49, _⟩ => ⟨S16x65536, .i32⟩
  | .hbm, ⟨50, _⟩ => ⟨S16x65536, .i32⟩
  | .hbm, ⟨51, _⟩ => ⟨S16x65536x1, .i32⟩
  | .hbm, ⟨52, _⟩ => ⟨S16x65536x1, .i32⟩
  | .hbm, ⟨53, _⟩ => ⟨S16x65536x2, .i32⟩
  | .hbm, ⟨54, _⟩ => ⟨S16x65536x3, .f32⟩
  | .hbm, ⟨55, _⟩ => ⟨S_, .i32⟩
  | .hbm, ⟨56, _⟩ => ⟨S16x131072x3, .i32⟩
  | .hbm, ⟨57, _⟩ => ⟨S16x131072x3, .i1⟩
  | .hbm, ⟨58, _⟩ => ⟨S_, .i32⟩
  | .hbm, ⟨59, _⟩ => ⟨S16x131072x3, .i32⟩
  | .hbm, ⟨60, _⟩ => ⟨S16x131072x3, .i32⟩
  | .hbm, ⟨61, _⟩ => ⟨S16x131072x3, .i32⟩
  | .hbm, ⟨62, _⟩ => ⟨S16x131072x3x1, .i32⟩
  | .hbm, ⟨63, _⟩ => ⟨S16x131072x3x3, .f32⟩
  | .hbm, ⟨64, _⟩ => ⟨S16x131072x9, .f32⟩
  | .hbm, ⟨65, _⟩ => ⟨S16x9x131072, .f32⟩
  | .hbm, ⟨66, _⟩ => ⟨S16x9x131072, .i32⟩
  | .hbm, ⟨67, _⟩ => ⟨S_, .f32⟩
  | .hbm, ⟨68, _⟩ => ⟨S16x131072x3, .f32⟩
  | .hbm, ⟨69, _⟩ => ⟨S_, .f32⟩
  | .hbm, ⟨70, _⟩ => ⟨S16x131072x3, .f32⟩
  | .hbm, ⟨71, _⟩ => ⟨S16x131072x3, .f32⟩
  | .hbm, ⟨72, _⟩ => ⟨S16x131072x1, .f32⟩
  | .hbm, ⟨73, _⟩ => ⟨S16x131072, .f32⟩
  | .hbm, ⟨74, _⟩ => ⟨S16x131072x1, .f32⟩
  | .hbm, ⟨75, _⟩ => ⟨S16x131072, .f32⟩
  | .hbm, ⟨76, _⟩ => ⟨S16x131072x1, .f32⟩
  | .hbm, ⟨77, _⟩ => ⟨S16x131072, .f32⟩
  | .hbm, ⟨78, _⟩ => ⟨S16x131072x1, .f32⟩
  | .hbm, ⟨79, _⟩ => ⟨S16x131072x1, .f32⟩
  | .hbm, ⟨80, _⟩ => ⟨S16x131072x1, .f32⟩
  | .hbm, ⟨81, _⟩ => ⟨S16x1x131072, .f32⟩
  | .hbm, ⟨82, _⟩ => ⟨S16x1x131072, .f32⟩
  | .hbm, ⟨83, _⟩ => ⟨S16x1x131072, .f32⟩
  | .hbm, ⟨84, _⟩ => ⟨S16x131072x1, .i32⟩
  | .hbm, ⟨85, _⟩ => ⟨S16x131072, .i32⟩
  | .hbm, ⟨86, _⟩ => ⟨S16x131072x9, .i32⟩
  | .hbm, ⟨87, _⟩ => ⟨S_, .i32⟩
  | .hbm, ⟨88, _⟩ => ⟨S16x131072x9, .i32⟩
  | .hbm, ⟨89, _⟩ => ⟨S16, .i32⟩
  | .hbm, ⟨90, _⟩ => ⟨S16x1, .i32⟩
  | .hbm, ⟨91, _⟩ => ⟨S_, .i32⟩
  | .hbm, ⟨92, _⟩ => ⟨S16x1, .i32⟩
  | .hbm, ⟨93, _⟩ => ⟨S16x1, .i1⟩
  | .hbm, ⟨94, _⟩ => ⟨S_, .i32⟩
  | .hbm, ⟨95, _⟩ => ⟨S16x1, .i32⟩
  | .hbm, ⟨96, _⟩ => ⟨S16x1, .i32⟩
  | .hbm, ⟨97, _⟩ => ⟨S16x1, .i32⟩
  | .hbm, ⟨98, _⟩ => ⟨S_, .i32⟩
  | .hbm, ⟨99, _⟩ => ⟨S16x131072, .i32⟩
  | .hbm, ⟨100, _⟩ => ⟨S16x131072, .i1⟩
  | .hbm, ⟨101, _⟩ => ⟨S_, .i32⟩
  | .hbm, ⟨102, _⟩ => ⟨S16x131072, .i32⟩
  | .hbm, ⟨103, _⟩ => ⟨S16x131072, .i32⟩
  | .hbm, ⟨104, _⟩ => ⟨S16x131072, .i32⟩
  | .hbm, ⟨105, _⟩ => ⟨S16x131072, .i32⟩
  | .hbm, ⟨106, _⟩ => ⟨S16x131072x1, .i32⟩
  | .hbm, ⟨107, _⟩ => ⟨S16x131072x1, .i32⟩
  | .hbm, ⟨108, _⟩ => ⟨S16x131072x2, .i32⟩
  | .hbm, ⟨109, _⟩ => ⟨S16x131072x9, .i32⟩
  | .hbm, ⟨110, _⟩ => ⟨S16x1179648, .i32⟩
  | .hbm, ⟨111, _⟩ => ⟨S16x9216x128, .i32⟩
  | .hbm, ⟨112, _⟩ => ⟨S16x9216x128, .f32⟩
  | .hbm, ⟨113, _⟩ => ⟨S16x131072x3x3, .f32⟩
  | .hbm, ⟨114, _⟩ => ⟨S16x131072x3x3, .i32⟩
  | .hbm, ⟨115, _⟩ => ⟨S_, .i32⟩
  | .hbm, ⟨116, _⟩ => ⟨S16x1, .i32⟩
  | .hbm, ⟨117, _⟩ => ⟨S16x1179650, .i32⟩
  | .hbm, ⟨118, _⟩ => ⟨S16x1, .f32⟩
  | .hbm, ⟨119, _⟩ => ⟨S_, .f32⟩
  | .hbm, ⟨120, _⟩ => ⟨S16x1179648, .f32⟩
  | .hbm, ⟨121, _⟩ => ⟨S16x1179650, .f32⟩
  | .local _ .vmem, ⟨0, _⟩ => ⟨S1x2048x1, .f32⟩
  | .local _ .vmem, ⟨1, _⟩ => ⟨S1x2048x1, .f32⟩
  | .local _ .vmem, ⟨2, _⟩ => ⟨S1x2048x1, .f32⟩
  | .local _ .vmem, ⟨3, _⟩ => ⟨S1x2048x1, .f32⟩
  | .local _ .vmem, ⟨4, _⟩ => ⟨S1x2048x1, .f32⟩
  | .local _ .vmem, ⟨5, _⟩ => ⟨S1x2048x1, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048x1, .i32⟩
  | .local _ .vmem, ⟨13, _⟩ => ⟨S1x2048x1, .i32⟩
  | .local _ .vmem, ⟨14, _⟩ => ⟨S1x9x131072, .f32⟩
  | .local _ .vmem, ⟨15, _⟩ => ⟨S1x9x131072, .f32⟩
  | .local _ .vmem, ⟨16, _⟩ => ⟨S1x9x131072, .i32⟩
  | .local _ .vmem, ⟨17, _⟩ => ⟨S1x9x131072, .i32⟩
  | .local _ .vmem, ⟨18, _⟩ => ⟨S1x2048x1, .f32⟩
  | .local _ .vmem, ⟨19, _⟩ => ⟨S1x2048x1, .f32⟩
  | .local _ .vmem, ⟨20, _⟩ => ⟨S1x2048x1, .f32⟩
  | .local _ .vmem, ⟨21, _⟩ => ⟨S1x2048x1, .f32⟩
  | .local _ .vmem, ⟨22, _⟩ => ⟨S1x2048x1, .f32⟩
  | .local _ .vmem, ⟨23, _⟩ => ⟨S1x2048x1, .f32⟩
  | .local _ .vmem, ⟨24, _⟩ => ⟨S1x1x2048, .f32⟩
  | .local _ .vmem, ⟨25, _⟩ => ⟨S1x1x2048, .f32⟩
  | .local _ .vmem, ⟨26, _⟩ => ⟨S1x1x2048, .f32⟩
  | .local _ .vmem, ⟨27, _⟩ => ⟨S1x1x2048, .f32⟩
  | .local _ .vmem, ⟨28, _⟩ => ⟨S1x1x2048, .f32⟩
  | .local _ .vmem, ⟨29, _⟩ => ⟨S1x1x2048, .f32⟩
  | .local _ .vmem, ⟨30, _⟩ => ⟨S1x2048x1, .i32⟩
  | .local _ .vmem, ⟨31, _⟩ => ⟨S1x2048x1, .i32⟩
  | .local _ .vmem, ⟨32, _⟩ => ⟨S1x9216x128, .i32⟩
  | .local _ .vmem, ⟨33, _⟩ => ⟨S1x9216x128, .i32⟩
  | .local _ .vmem, ⟨34, _⟩ => ⟨S1x9216x128, .f32⟩
  | .local _ .vmem, ⟨35, _⟩ => ⟨S1x9216x128, .f32⟩
  | _, _ => ⟨S16x65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c : Ref sig .tc := ⟨.hbm, 36, rfl⟩
abbrev main_v29 : Ref sig .tc := ⟨.hbm, 37, rfl⟩
abbrev main_v30 : Ref sig .tc := ⟨.hbm, 38, rfl⟩
abbrev main_c_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_5 : Ref sig .tc := ⟨.hbm, 43, rfl⟩
abbrev main_v34 : Ref sig .tc := ⟨.hbm, 44, rfl⟩
abbrev main_v35 : Ref sig .tc := ⟨.hbm, 45, rfl⟩
abbrev main_c_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_7 : Ref sig .tc := ⟨.hbm, 55, rfl⟩
abbrev main_v44 : Ref sig .tc := ⟨.hbm, 56, rfl⟩
abbrev main_v45 : Ref sig .tc := ⟨.hbm, 57, rfl⟩
abbrev main_c_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_c_11 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_c_12 : Ref sig .tc := ⟨.hbm, 91, rfl⟩
abbrev main_v75 : Ref sig .tc := ⟨.hbm, 92, rfl⟩
abbrev main_v76 : Ref sig .tc := ⟨.hbm, 93, rfl⟩
abbrev main_c_13 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_c_14 : Ref sig .tc := ⟨.hbm, 98, rfl⟩
abbrev main_v80 : Ref sig .tc := ⟨.hbm, 99, rfl⟩
abbrev main_v81 : Ref sig .tc := ⟨.hbm, 100, rfl⟩
abbrev main_c_15 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_c_16 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_cst_17 : Ref sig .tc := ⟨.hbm, 119, rfl⟩
abbrev main_v98 : Ref sig .tc := ⟨.hbm, 120, rfl⟩
abbrev main_v99 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc3_sem0_0 : DmaSem sig := 32
abbrev cc3_sem0_1 : DmaSem sig := 33
abbrev cc3_sem1_0 : DmaSem sig := 34
abbrev cc3_sem1_1 : DmaSem sig := 35

abbrev nD : Nat := 1
abbrev τ : Topo := Topo.v7x

variable {F : FTy → Type} [FloatOps F]

abbrev grid0 : Pipeline.Grid := ⟨3, ![16, 32, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x2048x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x9x131072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x9x131072 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![16, 64, 64], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x2048x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, true]

abbrev stage2_4 : Fin 2 → Memref sig .tc .vmem S1x1x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, true]

abbrev stage2_5 : Fin 2 → Memref sig .tc .vmem S1x1x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false, true]

abbrev stage2_6 : Fin 2 → Memref sig .tc .vmem S1x2048x1 .i32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, false]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x9216x128 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x9216x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]
-- ==== ReferenceIdeal.lean ====
abbrev S16x65536x3 : Shape := ⟨3, ![16, 65536, 3]⟩
abbrev S16x131072x3 : Shape := ⟨3, ![16, 131072, 3]⟩
abbrev S_ : Shape := ⟨0, ![]⟩
abbrev S65536x3 : Shape := ⟨2, ![65536, 3]⟩
abbrev S1x65536x3 : Shape := ⟨3, ![1, 65536, 3]⟩
abbrev S16x65536x1 : Shape := ⟨3, ![16, 65536, 1]⟩
abbrev S16x65536 : Shape := ⟨2, ![16, 65536]⟩
abbrev S65536 : Shape := ⟨1, ![65536]⟩
abbrev S16x131072x3x1 : Shape := ⟨4, ![16, 131072, 3, 1]⟩
abbrev S16x131072x3x3 : Shape := ⟨4, ![16, 131072, 3, 3]⟩
abbrev S131072x3 : Shape := ⟨2, ![131072, 3]⟩
abbrev S1 : Shape := ⟨1, ![1]⟩
abbrev S1x1x1x1 : Shape := ⟨4, ![1, 1, 1, 1]⟩
abbrev S16x131072x1 : Shape := ⟨3, ![16, 131072, 1]⟩
abbrev S16x131072 : Shape := ⟨2, ![16, 131072]⟩
abbrev S131072 : Shape := ⟨1, ![131072]⟩
abbrev S16x131072x1x1 : Shape := ⟨4, ![16, 131072, 1, 1]⟩
abbrev S16x1179648 : Shape := ⟨2, ![16, 1179648]⟩
abbrev S16x1 : Shape := ⟨2, ![16, 1]⟩
abbrev S16x1179650 : Shape := ⟨2, ![16, 1179650]⟩

abbrev nBuf : Space → Nat
  | .hbm => 180
  | .vmem => 0
  | .smem => 0
  | _ => 0

abbrev hbmTy0_0 (i : Nat) : BufTy := match i % 128 with
  | 0 => ⟨S16x65536x3, .f32⟩
  | 1 => ⟨S16x131072x3, .i32⟩
  | 2 => ⟨S_, .f32⟩
  | 3 => ⟨S65536x3, .f32⟩
  | 4 => ⟨S_, .f32⟩
  | 5 => ⟨S65536x3, .f32⟩
  | 6 => ⟨S65536x3, .f32⟩
  | 7 => ⟨S_, .f32⟩
  | 8 => ⟨S65536x3, .f32⟩
  | 9 => ⟨S65536x3, .f32⟩
  | 10 => ⟨S65536x3, .f32⟩
  | 11 => ⟨S_, .f32⟩
  | 12 => ⟨S_, .f32⟩
  | 13 => ⟨S1x65536x3, .f32⟩
  | 14 => ⟨S16x65536x3, .f32⟩
  | 15 => ⟨S16x65536x3, .f32⟩
  | 16 => ⟨S16x65536x3, .f32⟩
  | 17 => ⟨S16x65536x3, .f32⟩
  | 18 => ⟨S16x65536x1, .f32⟩
  | 19 => ⟨S16x65536, .f32⟩
  | 20 => ⟨S16x65536x1, .f32⟩
  | 21 => ⟨S16x65536, .f32⟩
  | 22 => ⟨S16x65536x1, .f32⟩
  | 23 => ⟨S16x65536, .f32⟩
  | 24 => ⟨S65536, .i32⟩
  | 25 => ⟨S16x65536, .i32⟩
  | 26 => ⟨S16x65536, .f32⟩
  | 27 => ⟨S16x65536, .f32⟩
  | 28 => ⟨S16x65536, .f32⟩
  | 29 => ⟨S16x65536, .i32⟩
  | 30 => ⟨S_, .i32⟩
  | 31 => ⟨S16x65536, .i32⟩
  | 32 => ⟨S16x65536, .i1⟩
  | 33 => ⟨S_, .i32⟩
  | 34 => ⟨S16x65536, .i32⟩
  | 35 => ⟨S16x65536, .i32⟩
  | 36 => ⟨S16x65536, .i32⟩
  | 37 => ⟨S16x65536x1, .i32⟩
  | 38 => ⟨S16x65536x3, .f32⟩
  | 39 => ⟨S_, .i32⟩
  | 40 => ⟨S16x131072x3, .i32⟩
  | 41 => ⟨S16x131072x3, .i1⟩
  | 42 => ⟨S_, .i32⟩
  | 43 => ⟨S16x131072x3, .i32⟩
  | 44 => ⟨S16x131072x3, .i32⟩
  | 45 => ⟨S16x131072x3, .i32⟩
  | 46 => ⟨S16x131072x3x1, .i32⟩
  | 47 => ⟨S16x131072x3x3, .f32⟩
  | 48 => ⟨S16x131072x3x1, .f32⟩
  | 49 => ⟨S16x131072x3, .f32⟩
  | 50 => ⟨S16x131072x3x1, .f32⟩
  | 51 => ⟨S16x131072x3, .f32⟩
  | 52 => ⟨S16x131072x3x1, .f32⟩
  | 53 => ⟨S16x131072x3, .f32⟩
  | 54 => ⟨S131072x3, .i32⟩
  | 55 => ⟨S16x131072x3, .i32⟩
  | 56 => ⟨S16x131072x3, .f32⟩
  | 57 => ⟨S16x131072x3, .f32⟩
  | 58 => ⟨S16x131072x3, .f32⟩
  | 59 => ⟨S16x131072x3, .i32⟩
  | 60 => ⟨S_, .i32⟩
  | 61 => ⟨S16x131072x3, .i32⟩
  | 62 => ⟨S16x131072x3, .i1⟩
  | 63 => ⟨S_, .i32⟩
  | 64 => ⟨S16x131072x3, .i32⟩
  | 65 => ⟨S16x131072x3, .i32⟩
  | 66 => ⟨S16x131072x3, .i32⟩
  | 67 => ⟨S16x131072x3x1, .i32⟩
  | 68 => ⟨S1, .i32⟩
  | 69 => ⟨S_, .i32⟩
  | 70 => ⟨S16x131072x3x1, .i32⟩
  | 71 => ⟨S16x131072x3x1, .i1⟩
  | 72 => ⟨S1x1x1x1, .i32⟩
  | 73 => ⟨S16x131072x3x1, .i32⟩
  | 74 => ⟨S16x131072x3x1, .i1⟩
  | 75 => ⟨S16x131072x3x1, .i1⟩
  | 76 => ⟨S_, .i1⟩
  | 77 => ⟨S16x131072x3, .i1⟩
  | 78 => ⟨S16x131072x3, .i32⟩
  | 79 => ⟨S_, .i32⟩
  | 80 => ⟨S16x131072x3, .i32⟩
  | 81 => ⟨S16x131072x3, .i32⟩
  | 82 => ⟨S_, .f32⟩
  | 83 => ⟨S16x131072x3, .f32⟩
  | 84 => ⟨S_, .f32⟩
  | 85 => ⟨S16x131072x3, .f32⟩
  | 86 => ⟨S16x131072x3, .f32⟩
  | 87 => ⟨S16x131072x1, .f32⟩
  | 88 => ⟨S16x131072, .f32⟩
  | 89 => ⟨S16x131072x1, .f32⟩
  | 90 => ⟨S16x131072, .f32⟩
  | 91 => ⟨S16x131072x1, .f32⟩
  | 92 => ⟨S16x131072, .f32⟩
  | 93 => ⟨S131072, .i32⟩
  | 94 => ⟨S16x131072, .i32⟩
  | 95 => ⟨S16x131072, .f32⟩
  | 96 => ⟨S16x131072, .f32⟩
  | 97 => ⟨S16x131072, .f32⟩
  | 98 => ⟨S16x131072, .i32⟩
  | 99 => ⟨S_, .i32⟩
  | 100 => ⟨S16x131072, .i32⟩
  | 101 => ⟨S16x131072, .i1⟩
  | 102 => ⟨S_, .i32⟩
  | 103 => ⟨S16x131072, .i32⟩
  | 104 => ⟨S16x131072, .i32⟩
  | 105 => ⟨S16x131072, .i32⟩
  | 106 => ⟨S16x131072x1, .i32⟩
  | 107 => ⟨S16x131072x3, .i32⟩
  | 108 => ⟨S_, .i32⟩
  | 109 => ⟨S16x131072x3, .i32⟩
  | 110 => ⟨S16x131072x3, .i1⟩
  | 111 => ⟨S_, .i1⟩
  | 112 => ⟨S16x131072, .i1⟩
  | 113 => ⟨S16x131072x1, .i1⟩
  | 114 => ⟨S_, .i32⟩
  | 115 => ⟨S_, .i32⟩
  | 116 => ⟨S16x131072x3, .i1⟩
  | 117 => ⟨S16x131072x3, .i32⟩
  | 118 => ⟨S16x131072x3, .i32⟩
  | 119 => ⟨S_, .i32⟩
  | 120 => ⟨S16x131072x3, .i32⟩
  | 121 => ⟨S16x131072x3, .i1⟩
  | 122 => ⟨S_, .i32⟩
  | 123 => ⟨S16x131072x3, .i32⟩
  | 124 => ⟨S16x131072x3, .i32⟩
  | 125 => ⟨S16x131072x3, .i32⟩
  | 126 => ⟨S16x131072x3x1, .i32⟩
  | 127 => ⟨S16x131072x3x3, .f32⟩
  | _ => ⟨S16x65536x3, .f32⟩

abbrev hbmTy0_1 (i : Nat) : BufTy := match i % 128 with
  | 0 => ⟨S_, .f32⟩
  | 1 => ⟨S16x131072x3x3, .f32⟩
  | 2 => ⟨S16x131072x3x3, .f32⟩
  | 3 => ⟨S_, .f32⟩
  | 4 => ⟨S16x131072x3x3, .f32⟩
  | 5 => ⟨S16x131072x3x3, .f32⟩
  | 6 => ⟨S_, .f32⟩
  | 7 => ⟨S16x131072x3x3, .f32⟩
  | 8 => ⟨S16x131072x3x3, .f32⟩
  | 9 => ⟨S_, .f32⟩
  | 10 => ⟨S16x131072x3x3, .f32⟩
  | 11 => ⟨S16x131072x3x3, .f32⟩
  | 12 => ⟨S16x131072x3x3, .f32⟩
  | 13 => ⟨S_, .i32⟩
  | 14 => ⟨S_, .i32⟩
  | 15 => ⟨S_, .f32⟩
  | 16 => ⟨S16x131072x3x3, .f32⟩
  | 17 => ⟨S16x131072x3x3, .f32⟩
  | 18 => ⟨S_, .f32⟩
  | 19 => ⟨S16x131072x3x3, .f32⟩
  | 20 => ⟨S16x131072x3x3, .f32⟩
  | 21 => ⟨S16x131072x3x3, .i32⟩
  | 22 => ⟨S16x131072x1x1, .i1⟩
  | 23 => ⟨S_, .i32⟩
  | 24 => ⟨S_, .i32⟩
  | 25 => ⟨S16x131072x3x3, .i1⟩
  | 26 => ⟨S16x131072x3x3, .i32⟩
  | 27 => ⟨S16x131072x3x3, .i32⟩
  | 28 => ⟨S16x1179648, .i32⟩
  | 29 => ⟨S_, .i32⟩
  | 30 => ⟨S16x1179648, .i32⟩
  | 31 => ⟨S16x1179648, .i1⟩
  | 32 => ⟨S16x1179648, .f32⟩
  | 33 => ⟨S_, .i32⟩
  | 34 => ⟨S16x1, .i32⟩
  | 35 => ⟨S_, .f32⟩
  | 36 => ⟨S16x1, .f32⟩
  | 37 => ⟨S16x1179650, .i32⟩
  | 38 => ⟨S16x1179650, .f32⟩
  | 39 => ⟨S16x131072x3x3, .f32⟩
  | 40 => ⟨S_, .f32⟩
  | 41 => ⟨S16x131072x3x3, .f32⟩
  | 42 => ⟨S16x131072x3x3, .f32⟩
  | 43 => ⟨S_, .f32⟩
  | 44 => ⟨S16x131072x3x3, .f32⟩
  | 45 => ⟨S16x131072x3x3, .f32⟩
  | 46 => ⟨S_, .f32⟩
  | 47 => ⟨S16x131072x3x3, .f32⟩
  | 48 => ⟨S16x131072x3x3, .f32⟩
  | 49 => ⟨S_, .f32⟩
  | 50 => ⟨S16x131072x3x3, .f32⟩
  | 51 => ⟨S16x131072x3x3, .f32⟩
  | _ => ⟨S16x65536x3, .f32⟩

abbrev hbmTy (i : Nat) : BufTy := match i / 128 with
  | 0 => hbmTy0_0 i
  | 1 => hbmTy0_1 i
  | _ => ⟨S16x65536x3, .f32⟩

abbrev bufTy : (tb : Table) → Fin (tcTables nBuf tb) → BufTy
  | .hbm, ⟨i, _⟩ => hbmTy i
  | _, _ => ⟨S16x65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_v2_0 : Ref sig .tc := ⟨.hbm, 26, rfl⟩
abbrev main_call0_v2_1 : Ref sig .tc := ⟨.hbm, 27, rfl⟩
abbrev main_call0_v2_2 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call1_v0 : Ref sig .tc := ⟨.hbm, 54, rfl⟩
abbrev main_call1_v1 : Ref sig .tc := ⟨.hbm, 55, rfl⟩
abbrev main_call1_v2_0 : Ref sig .tc := ⟨.hbm, 56, rfl⟩
abbrev main_call1_v2_1 : Ref sig .tc := ⟨.hbm, 57, rfl⟩
abbrev main_call1_v2_2 : Ref sig .tc := ⟨.hbm, 58, rfl⟩
abbrev main_v39 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_c_4 : Ref sig .tc := ⟨.hbm, 79, rfl⟩
abbrev main_call2_v14 : Ref sig .tc := ⟨.hbm, 80, rfl⟩
abbrev main_v40 : Ref sig .tc := ⟨.hbm, 81, rfl⟩
abbrev main_cst_6 : Ref sig .tc := ⟨.hbm, 82, rfl⟩
abbrev main_v41 : Ref sig .tc := ⟨.hbm, 83, rfl⟩
abbrev main_cst_7 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_call3_v0 : Ref sig .tc := ⟨.hbm, 93, rfl⟩
abbrev main_call3_v1 : Ref sig .tc := ⟨.hbm, 94, rfl⟩
abbrev main_call3_v2_0 : Ref sig .tc := ⟨.hbm, 95, rfl⟩
abbrev main_call3_v2_1 : Ref sig .tc := ⟨.hbm, 96, rfl⟩
abbrev main_call3_v2_2 : Ref sig .tc := ⟨.hbm, 97, rfl⟩
abbrev main_v50 : Ref sig .tc := ⟨.hbm, 98, rfl⟩
abbrev main_c_8 : Ref sig .tc := ⟨.hbm, 99, rfl⟩
abbrev main_v51 : Ref sig .tc := ⟨.hbm, 100, rfl⟩
abbrev main_v52 : Ref sig .tc := ⟨.hbm, 101, rfl⟩
abbrev main_c_9 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_c_10 : Ref sig .tc := ⟨.hbm, 108, rfl⟩
abbrev main_v58 : Ref sig .tc := ⟨.hbm, 109, rfl⟩
abbrev main_v59 : Ref sig .tc := ⟨.hbm, 110, rfl⟩
abbrev main_c_11 : Ref sig .tc := ⟨.hbm, 111, rfl⟩
abbrev main_v60 : Ref sig .tc := ⟨.hbm, 112, rfl⟩
abbrev main_v61 : Ref sig .tc := ⟨.hbm, 113, rfl⟩
abbrev main_c_12 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_v62 : Ref sig .tc := ⟨.hbm, 118, rfl⟩
abbrev main_c_13 : Ref sig .tc := ⟨.hbm, 119, rfl⟩
abbrev main_v63 : Ref sig .tc := ⟨.hbm, 120, rfl⟩
abbrev main_v64 : Ref sig .tc := ⟨.hbm, 121, rfl⟩
abbrev main_c_14 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_15 : Ref sig .tc := ⟨.hbm, 128, rfl⟩
abbrev main_v70 : Ref sig .tc := ⟨.hbm, 129, rfl⟩
abbrev main_v71 : Ref sig .tc := ⟨.hbm, 130, rfl⟩
abbrev main_cst_16 : Ref sig .tc := ⟨.hbm, 131, rfl⟩
abbrev main_v72 : Ref sig .tc := ⟨.hbm, 132, rfl⟩
abbrev main_v73 : Ref sig .tc := ⟨.hbm, 133, rfl⟩
abbrev main_cst_17 : Ref sig .tc := ⟨.hbm, 134, rfl⟩
abbrev main_v74 : Ref sig .tc := ⟨.hbm, 135, rfl⟩
abbrev main_v75 : Ref sig .tc := ⟨.hbm, 136, rfl⟩
abbrev main_cst_18 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_c_19 : Ref sig .tc := ⟨.hbm, 141, rfl⟩
abbrev main_c_20 : Ref sig .tc := ⟨.hbm, 142, rfl⟩
abbrev main_call6_v0 : Ref sig .tc := ⟨.hbm, 143, rfl⟩
abbrev main_call6_v1 : Ref sig .tc := ⟨.hbm, 144, rfl⟩
abbrev main_call6_v2 : Ref sig .tc := ⟨.hbm, 145, rfl⟩
abbrev main_call6_v3 : Ref sig .tc := ⟨.hbm, 146, rfl⟩
abbrev main_call6_v4 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_c_21 : Ref sig .tc := ⟨.hbm, 151, rfl⟩
abbrev main_call7_v0 : Ref sig .tc := ⟨.hbm, 152, rfl⟩
abbrev main_call7_v1 : Ref sig .tc := ⟨.hbm, 153, rfl⟩
abbrev main_call7_v2 : Ref sig .tc := ⟨.hbm, 154, rfl⟩
abbrev main_v82 : Ref sig .tc := ⟨.hbm, 155, rfl⟩
abbrev main_v83 : Ref sig .tc := ⟨.hbm, 156, rfl⟩
abbrev main_c_22 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_c_23 : Ref sig .tc := ⟨.hbm, 161, rfl⟩
abbrev main_v87 : Ref sig .tc := ⟨.hbm, 162, rfl⟩
abbrev main_cst_24 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_cst_25 : Ref sig .tc := ⟨.hbm, 168, rfl⟩
abbrev main_v92 : Ref sig .tc := ⟨.hbm, 169, rfl⟩
abbrev main_v93 : Ref sig .tc := ⟨.hbm, 170, rfl⟩
abbrev main_cst_26 : Ref sig .tc := ⟨.hbm, 171, rfl⟩
abbrev main_v94 : Ref sig .tc := ⟨.hbm, 172, rfl⟩
abbrev main_v95 : Ref sig .tc := ⟨.hbm, 173, rfl⟩
abbrev main_cst_27 : Ref sig .tc := ⟨.hbm, 174, rfl⟩
abbrev main_v96 : Ref sig .tc := ⟨.hbm, 175, rfl⟩
abbrev main_v97 : Ref sig .tc := ⟨.hbm, 176, rfl⟩
abbrev main_cst_28 : Ref sig .tc := ⟨.hbm, 177, rfl⟩
abbrev main_v98 : Ref sig .tc := ⟨.hbm, 178, rfl⟩
abbrev main_v99 : Ref sig .tc := ⟨.hbm, 179, rfl⟩

abbrev nD : Nat := 1
abbrev τ : Topo := Topo.v7x

variable {F : FTy → Type} [FloatOps F]
-- ==== Proof.RegionCore.lean ====
/-
  What the four kernel regions of the program share: a region, entered with every unscoped buffer at one valuation and left
  with every unscoped buffer at another, as a segment of the host program.
-/
module

public import proofs.«01_k».proof.Proof.Gen.KernelIdeal.Regions
public import Idealize.ShloMosaic.Lib.Pipeline.FrameBody
public import Idealize.ShloMosaic.Lib.Pipeline.RegionsLoop

@[expose] public section

set_option maxRecDepth 16384

noncomputable section

namespace Cert.KernelIdeal.Own

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

local notation "𝕄" => MT nD τ sig Unit (Elt F) ℕ (UR sig nD τ) ℕ

/-- No core owes another anything: no level is assigned. -/
abbrev lvSet : GSem nD τ sig → Finset Unit := fun _ => ∅
/-- The (unused) level of a semaphore. -/
abbrev lvOf : GSem nD τ sig → Unit → ℕ := fun _ _ => 0

/-- Proof data of all four regions. -/
abbrev Dats : Type := (p : Fin 4) → (c : Dev nD) → Dat τ (Elt F) Unit ℕ (UR sig nD τ) ℕ (cfgs p) c

/-- What a core holds beside its buffers between two items: that it owes nothing. -/
abbrev rest (c : Dev nD) : sProp 𝕄 := iprop(∃ W, owes (c : Thread nD τ) (0 : CellTallies nD τ sig Unit) W)

/-- The thread state between two items: every unscoped buffer held at `V c`, nothing owed. -/
abbrev stateAt (V : (c : Dev nD) → Valuation τ sig (Elt F)) (c : Dev nD) : sProp 𝕄 :=
  iprop(StableHlo.held (c : Thread nD τ) (Pipeline.ucRefs τ sig) (V c) ∗ rest c)

set_option backward.isDefEq.respectTransparency.types false in
/-- A region as a segment: from every unscoped buffer at `V c` to every unscoped buffer at `Vp c`, given proof data that
    read their arrays off `V`, hold them at full shares, owe nothing, keep the untouched scoped buffers as their invariant,
    whose body obligation holds, and whose final arrays are what `Vp` says. -/
def regionSeg (p : Fin 4) (launch : Pipeline.LaunchFacts (nD := nD) (τ := τ) cfgs p) (pdats : Dats (F := F))
    (hbody : ∀ c, BodyObligation (pdats p c) (defs₀ (F := F)) Variants.none () Set.univ)
    (howed : ∀ c t, (pdats p c).owed t = 0) (hrec : ∀ c, (pdats p c).recorded 0 = Set.univ)
    (hq : ∀ c w, (pdats p c).q w = fullShare)
    (hΦ : ∀ c t, (pdats p c).Φ t = Pipeline.scopedRest (Ix := Unit) (Name := ℕ) (U := UR sig nD τ) (Lvl := ℕ) (Val := Elt F) (cfgs p).spec c)
    (V Vp : (c : Dev nD) → Valuation τ sig (Elt F))
    (hA : ∀ c w, (pdats p c).A w = V c (Pipeline.arrRef (cfgs p).spec w))
    (hVp : ∀ c w, (pdats p c).arrAt w (cfgs p).N = Vp c (Pipeline.arrRef (cfgs p).spec w))
    (hVne : ∀ c (b : Ref sig .tc), b ∉ Finset.univ.image (Pipeline.arrRef (cfgs p).spec) → Vp c b = V c b) :
    RegionSeg (pcfgs (F := F)) adm pdats () defs₀ Variants.none lvSet lvOf p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ lvSet lvOf p howed
  pre := stateAt V
  post := stateAt Vp
  X _ := BI.emp
  Y _ := BI.emp
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm pdats launch.win launch.arr_whole c
      ((pdats p c).share_full (hq c)) (fun b => V c b) (hA c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c]
      icases HO with ⟨%W, HO⟩; iexists W; isplitr; · ipureintro; exact fun _ _ => Or.inl trivial
      iexact HO
    isplitr; · iempintro
    iexact Hrest
  hin c := by
    rw [hΦ c 0]
    iintro ⟨-, -, Hr⟩; iexact Hr
  hout c := by
    rw [Pipeline.ownSems0_none, hΦ c]
    iintro Hr
    isplitr; · iempintro
    isplitr; · iempintro
    iexact Hr
  hexit c := by
    have hjoin := Pipeline.unscopedBufs_of_arrays (p := p) (pcfgs (F := F)) adm (Ix := Unit) (Name := ℕ) (U := UR sig nD τ) (Lvl := ℕ) launch.win launch.arr_whole c
      pdats ((pdats p c).share_full (hq c)) (fun b => V c b) (fun b => Vp c b) ((pdats p c).arrAt · (cfgs p).N)
      (hVp c) (hVne c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    rw [howed c]
    icases HO with ⟨%W, -, HO⟩; iexists W; iexact HO

end Cert.KernelIdeal.Own

end
-- ==== Proof.Rank0Body.lean ====
/-
  The first rank kernel (region 0): what its body leaves in the output's staging buffer at one grid point, as a function of
  the buffer's contents before and of the six input blocks.
-/
module

public import proofs.«01_k».proof.Proof.Gen.KernelIdeal.Skeleton
public import proofs.«01_k».proof.Proof.Gen.KernelIdeal.Points
public import proofs.«01_k».proof.Proof.RegionCore
public import Idealize.ShloMosaic.Lib.Pipeline.Value
public import Idealize.ShloMosaic.Lib.Tactic
public import Idealize.ShloMosaic.Lib.WordCmp
public import Idealize.ShloMosaic.Lib.VecWindow

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

theorem zeros3 : (![0, 0, 0] : Fin 3 → Nat) = fun _ => 0 := funext fun a => by fin_cases a <;> rfl

/-- The body resets its accumulator at this point: the last grid coordinate is zero. -/
abbrev first0 (i : grid0.Coords) : Prop := (Scalar.cmpi .ne (Scalar.extui (Scalar.cmpi .eq (BitVec.ofNat 32 (i 2).val) 0#32)) 0#32) = 1#1

/-- The block pair has an equal pair of first keys, as the body tests it. -/
abbrev ties0 (x0 : Vec F S1x2048x1 .f32) (x3 : Vec F S1x1x2048 .f32) : Prop :=
  Scalar.cmpi .ne (Scalar.extui (Scalar.cmpf .ogt (k0_pay1 (F := F) (k0_pay10 x0 x3)) (Scalar.ofBits .f32 0x00000000#32))) 0#32 = 1#1

open Classical in
/-- The accumulator after the first half: reset where the point is a first one, plus the counts of strictly smaller first keys. -/
def half0 (i : grid0.Coords) (x0 : Vec F S1x2048x1 .f32) (x3 : Vec F S1x1x2048 .f32) (acc : Vec F S1x2048x1 .i32) : Vec F S1x2048x1 .i32 :=
  k0_pay11 x0 x3 (if first0 i then k0_pay3 else acc)

open Classical in
/-- The accumulator after the body: the counts of the pairs with equal first keys added where there are any. -/
def step0 (i : grid0.Coords) (x0 x1 x2 : Vec F S1x2048x1 .f32) (x3 x4 x5 : Vec F S1x1x2048 .f32) (acc : Vec F S1x2048x1 .i32) : Vec F S1x2048x1 .i32 :=
  if ties0 x0 x3 then
    k0_pay2 (BitVec.ofNat 32 (i 1).val) (BitVec.ofNat 32 (i 2).val) (k0_pay5 x1) (k0_pay6 x2) (k0_pay8 x4) (k0_pay9 x5) (k0_pay10 x0 x3) (half0 i x0 x3 acc)
  else half0 i x0 x3 acc

set_option maxHeartbeats 4000000 in
/-- THE BODY at one point: on whole staging buffers, the inputs' at their blocks and the output's at `acc`, it runs to the
    continuation with the inputs' as they were and the output's at `step0`. -/
theorem run0 (c : Dev nD) (i : grid0.Coords) (arg3 : Memref sig .tc .vmem S1x2048x1 .f32) (harg3 : arg3.IsWhole) (arg4 : Memref sig .tc .vmem S1x2048x1 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x2048x1 .i32) (harg9 : arg9.IsWhole)
    (x0 x1 x2 : Vec F S1x2048x1 .f32) (x3 x4 x5 : Vec F S1x1x2048 .f32) (acc : Vec F S1x2048x1 .i32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare acc
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (step0 i x0 x1 x2 x3 x4 x5 acc)) -∗ K ⟨⟩))
      ⊢ wp frame (wpE (defs₀ (F := F)) Variants.none c none) E (cc0__rank_body i arg3 harg3 arg4 harg4 arg5 harg5 arg6 harg6 arg7 harg7 arg8 harg8 arg9 harg9) K := by
  simp only [cc0__rank_body_eq_skeleton]; unfold cc0__rank_body_skel
  simp only [k0_part1_eq_skeleton]
  unfold owns
  by_cases h0 : first0 i
  all_goals
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact h0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; isplitr
    swap; · iexact H6
    ipureintro
    sl_unfold_words
    simp only [View.readAt_eq_ld, harg3.read_unread, harg4.read_unread, harg5.read_unread, harg6.read_unread, harg7.read_unread, harg8.read_unread, harg9.read_unread, View.ld_unit_zero (S := S1x1x2048) zeros3, View.ld_unit_zero (S := S1x2048x1) zeros3, View.readCov_unit_zero (S := S1x2048x1) _ zeros3]
    unfold step0 half0
    first
    | rw [if_pos h0]
    | rw [if_neg h0]
    split
    · refine (View.read_writes_full (s := S1x2048x1) _ _ _ _ _).trans ?_
      first
      | with_reducible rfl
      | exact congrArg _ (View.readCov_full (s := S1x2048x1) _ _ _ _ _)
    · exact View.read_writes_full (s := S1x2048x1) _ _ _ _ _

end Cert.KernelIdeal.Own

end
-- ==== Proof.Rank0.lean ====
/-
  The first rank kernel (region 0) over its grid: the proof data — the accumulator's contents after each point as a fold over
  the points of its run — and the body obligation, from any contents of the arrays at the region's entry.
-/
module

public import proofs.«01_k».proof.Proof.Rank0Body

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → Valuation τ sig (Elt F))

/-- The points of the first kind, in closed form. -/
theorem first0_iff (t : Fin cfg0.N) : first0 (grid0.coords t) ↔ t.val % 32 = 0 := by
  have ht : t.val < 16384 := Nat.lt_of_lt_of_eq t.isLt N_0
  have e2 : (grid0.coords t 2).val = t.val / 1 % 32 := Pipeline.Grid.coords_val t 2 (by decide) rfl
  simp only [first0, e2]
  word_cmp

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the accumulator at point `n`, over the contents before it. -/
def at0 (c : Dev nD) (n : ℕ) (h : n < cfg0.N) (acc : Vec F S1x2048x1 .i32) : Vec F S1x2048x1 .i32 :=
  step0 (grid0.coords ⟨n, h⟩) (blk0 V c 0 ⟨n, h⟩) (blk0 V c 1 ⟨n, h⟩) (blk0 V c 2 ⟨n, h⟩) (blk0 V c 3 ⟨n, h⟩) (blk0 V c 4 ⟨n, h⟩) (blk0 V c 5 ⟨n, h⟩) acc

/-- The same at a first point, where the contents before do not matter: over zero. -/
def start0 (c : Dev nD) (n : ℕ) (h : n < cfg0.N) : Vec F S1x2048x1 .i32 := at0 V c n h k0_pay3

/-- At a first point the contents before do not matter. -/
theorem at0_first (c : Dev nD) (t : Fin cfg0.N) (h : t.val % 32 = 0) (acc : Vec F S1x2048x1 .i32) :
    at0 V c t.val t.isLt acc = start0 V c t.val t.isLt := by
  unfold start0 at0 step0 half0
  rw [if_pos ((first0_iff t).mpr h), if_pos ((first0_iff t).mpr h)]

/-- The accumulator after point `n`: the fold over its run up to `n`. -/
def acc0 (c : Dev nD) (t : Fin cfg0.N) : Vec F S1x2048x1 .i32 :=
  Pipeline.accAt (start0 V c) (at0 V c) (32 * (t.val / 32)) (t.val % 32)
    (by have h1 := t.isLt; have h2 := Nat.div_add_mod t.val 32; omega)

theorem fold0_congr (c : Dev nD) (b j : ℕ) (h : b + j < cfg0.N) (b' j' : ℕ) (h' : b' + j' < cfg0.N) (hb : b = b') (hj : j = j') :
    Pipeline.accAt (start0 V c) (at0 V c) b j h = Pipeline.accAt (start0 V c) (at0 V c) b' j' h' := by
  subst hb; subst hj; rfl

theorem acc0_first (c : Dev nD) (t : Fin cfg0.N) (h : t.val % 32 = 0) : acc0 V c t = start0 V c t.val t.isLt := by
  unfold acc0
  rw [fold0_congr V c _ _ _ t.val 0 (by simpa using t.isLt) (by omega) h]
  rfl

theorem acc0_next (c : Dev nD) (t : Fin cfg0.N) (h : ¬t.val % 32 = 0) :
    acc0 V c t = at0 V c t.val t.isLt (acc0 V c ⟨t.val - 1, Nat.lt_of_le_of_lt (Nat.sub_le _ _) t.isLt⟩) := by
  have ht := t.isLt
  unfold acc0
  dsimp only
  rw [fold0_congr V c _ _ _ (32 * ((t.val - 1) / 32)) ((t.val - 1) % 32 + 1) (by omega) (by omega) (by omega)]
  have key : ∀ (n : ℕ) (hn : n < cfg0.N) (k : ℕ) (hk : k < cfg0.N) (x : Vec F S1x2048x1 .i32), n = k → at0 V c n hn x = at0 V c k hk x := by
    intro n hn k hk x e; subst e; rfl
  show at0 V c (32 * ((t.val - 1) / 32) + ((t.val - 1) % 32 + 1)) _ _ = _
  exact key _ _ _ _ _ (by omega)

/-- The region's proof data: the arrays as the region finds them, each input's buffer at its block, the output's at the fold. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => acc0 V c t
  Φ _ := Pipeline.scopedRest spec0 c
  q _ := fullShare
  owed _ := 0

theorem A0_eq (c : Dev nD) (w : Fin cfg0.W) : (dat0 V c).A w = V c (Pipeline.arrRef spec0 w) := by dsimp only [dat0]
theorem after0_6 (c : Dev nD) (t : Fin cfg0.N) : (dat0 V c).after 6 t = acc0 V c t := by dsimp only [dat0]

/-- Each input's buffer holds its block when the body runs, whether fetched at this point or before. -/
theorem before0_0 (c : Dev nD) (t : Fin cfg0.N) (d) : (dat0 V c).before 0 t d = blk0 V c 0 t :=
  ((dat0 V c).before_in_eq_fetched 0 rfl (fun _ => rfl) (fun _ _ _ => rfl) (fun t => by dsimp only [dat0]; unfold Dat.blockOf blk0; rfl) t d).trans
    (by unfold Dat.fetched Dat.blockOf blk0; rfl)
theorem before0_1 (c : Dev nD) (t : Fin cfg0.N) (d) : (dat0 V c).before 1 t d = blk0 V c 1 t :=
  ((dat0 V c).before_in_eq_fetched 1 rfl (fun _ => rfl) (fun _ _ _ => rfl) (fun t => by dsimp only [dat0]; unfold Dat.blockOf blk0; rfl) t d).trans
    (by unfold Dat.fetched Dat.blockOf blk0; rfl)
theorem before0_2 (c : Dev nD) (t : Fin cfg0.N) (d) : (dat0 V c).before 2 t d = blk0 V c 2 t :=
  ((dat0 V c).before_in_eq_fetched 2 rfl (fun _ => rfl) (fun _ _ _ => rfl) (fun t => by dsimp only [dat0]; unfold Dat.blockOf blk0; rfl) t d).trans
    (by unfold Dat.fetched Dat.blockOf blk0; rfl)
theorem before0_3 (c : Dev nD) (t : Fin cfg0.N) (d) : (dat0 V c).before 3 t d = blk0 V c 3 t :=
  ((dat0 V c).before_in_eq_fetched 3 rfl (fun _ => rfl) (fun _ _ _ => rfl) (fun t => by dsimp only [dat0]; unfold Dat.blockOf blk0; rfl) t d).trans
    (by unfold Dat.fetched Dat.blockOf blk0; rfl)
theorem before0_4 (c : Dev nD) (t : Fin cfg0.N) (d) : (dat0 V c).before 4 t d = blk0 V c 4 t :=
  ((dat0 V c).before_in_eq_fetched 4 rfl (fun _ => rfl) (fun _ _ _ => rfl) (fun t => by dsimp only [dat0]; unfold Dat.blockOf blk0; rfl) t d).trans
    (by unfold Dat.fetched Dat.blockOf blk0; rfl)
theorem before0_5 (c : Dev nD) (t : Fin cfg0.N) (d) : (dat0 V c).before 5 t d = blk0 V c 5 t :=
  ((dat0 V c).before_in_eq_fetched 5 rfl (fun _ => rfl) (fun _ _ _ => rfl) (fun t => by dsimp only [dat0]; unfold Dat.blockOf blk0; rfl) t d).trans
    (by unfold Dat.fetched Dat.blockOf blk0; rfl)

/-- At a later point of a run the accumulator holds what the point before left. -/
theorem before0_6 (c : Dev nD) (t : Fin cfg0.N) (h : ¬t.val % 32 = 0) (d) :
    (dat0 V c).before 6 t d = acc0 V c ⟨t.val - 1, Nat.lt_of_le_of_lt (Nat.sub_le _ _) t.isLt⟩ := by
  rw [Dat.before_out_kept _ 6 rfl t (by omega) (Bool.eq_false_iff.mpr fun h' => by have := (flush0_6 _).mp h'; dsimp only at this; omega)
    (fun _ => rfl) (fun _ _ => rfl)]
  dsimp only [dat0]

/-- The body at point `t` over the accumulator's contents before leaves the fold. -/
theorem at0_before (c : Dev nD) (t : Fin cfg0.N) (d) : at0 V c t.val t.isLt ((dat0 V c).before 6 t d) = acc0 V c t := by
  by_cases h : t.val % 32 = 0
  · rw [at0_first V c t h, acc0_first V c t h]
  · rw [before0_6 V c t h, acc0_next V c t h]

set_option maxHeartbeats 800000 in
/-- The body obligation of the region: at every point the body takes the buffers as the proof data say before it to as they say after. -/
theorem body0 (c : Dev nD) : BodyObligation (dat0 V c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  simp only [before0_0, before0_1, before0_2, before0_3, before0_4, before0_5]
  rw [show (dat0 V c).Φ t.succ = (dat0 V c).Φ t.castSucc from rfl,
    show (dat0 V c).owesAt () t.succ = (dat0 V c).owesAt () t.castSucc from rfl, after0_6]
  unfold bodyAt0
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run0 c (grid0.coords t) _ _ _ _ _ _ _ _ _ _ _ _ _ _ (blk0 V c 0 t) (blk0 V c 1 t) (blk0 V c 2 t) (blk0 V c 3 t) (blk0 V c 4 t) (blk0 V c 5 t) ((dat0 V c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  rw [show step0 (grid0.coords t) (blk0 V c 0 t) (blk0 V c 1 t) (blk0 V c 2 t) (blk0 V c 3 t) (blk0 V c 4 t) (blk0 V c 5 t) ((dat0 V c).before 6 t d6) = acc0 V c t from at0_before V c t d6]
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

end Cert.KernelIdeal.Own

end
-- ==== Proof.Face1.lean ====
/-
  The face kernel (region 1): what its body leaves, its proof data and its body obligation, from any contents of the arrays at the region's
  entry.
-/
module

public import proofs.«01_k».proof.Proof.Gen.KernelIdeal.Skeleton
public import proofs.«01_k».proof.Proof.Gen.KernelIdeal.Points
public import proofs.«01_k».proof.Proof.RegionCore
public import Idealize.ShloMosaic.Lib.Pipeline.Value
public import Idealize.ShloMosaic.Lib.Tactic
public import Idealize.ShloMosaic.Lib.VecWindow

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

theorem z3_1 : (![0, 0, 0] : Fin 3 → Nat) = fun _ => 0 := funext fun a => by fin_cases a <;> rfl

/-- What the body leaves in the output's staging buffer: the three corners of every face put into order, coordinate by coordinate. -/
def out1 (x0 : Vec F S1x9x131072 .f32) : Vec F S1x9x131072 .i32 :=
  let v3 := k1_pay3 x0
  let v5 := k1_pay4 x0
  let v7 := k1_pay5 x0
  let v9 := k1_pay6 x0
  let v11 := k1_pay7 x0
  let v13 := k1_pay8 x0
  let v15 := k1_pay9 x0
  let v17 := k1_pay10 x0
  let v19 := k1_pay11 x0
  let v30 := k1_pay12 x0
  let v41 := k1_pay13 x0
  let v52 := k1_pay14 x0
  let v53 := k1_pay15
  let v57 := k1_pay17 v30 v41 v53 0#32
  let v60 := k1_pay18 v30 v52 v53 0#32
  let v63 := k1_pay19 v41 v52 v53 0#32
  let v79 := k1_pay20 v3 v9 v15 v30 v41 v52 v53 0#32
  let v95 := k1_pay21 v5 v11 v17 v30 v41 v52 v53 0#32
  let v111 := k1_pay24 v7 v13 v19 v57 v60 v63 (k1_pay22 (F := F)) k1_pay23
  let v127 := k1_pay25 v3 v9 v15 v57 v60 v63
  let v143 := k1_pay28 v17 v63 (k1_pay26 v5 v11 v57 v60) k1_pay27
  let v159 := k1_pay29 v7 v13 v19 v57 v60 v63
  let v175 := k1_pay30 v3 v9 v15 v57 v60 v63
  let v181 := k1_pay31 v5 v57
  k1_pay1 (k1_pay32 v7 v11 v13 v17 v19 v57 v60 v63 v79 v95 v111 v127 v143 v159 v175 v181)

set_option maxHeartbeats 1000000 in
/-- THE BODY at one point: on whole staging buffers, the input's at `x0` and the output's at anything, it runs to the
    continuation with the output's at `out1 x0`. -/
theorem run1 (c : Dev nD) (i : grid1.Coords) (arg1 : Memref sig .tc .vmem S1x9x131072 .f32) (harg1 : arg1.IsWhole) (arg2 : Memref sig .tc .vmem S1x9x131072 .i32) (harg2 : arg2.IsWhole)
    (x0 : Vec F S1x9x131072 .f32) (E : Set ℕ) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1 x0)) -∗ K ⟨⟩))
      ⊢ wp frame (wpE (defs₀ (F := F)) Variants.none c none) E (cc1__face_body i arg1 harg1 arg2 harg2) K := by
  simp only [cc1__face_body_eq_skeleton]; unfold cc1__face_body_skel
  simp only [k1_part1_eq_skeleton, k1_part2_eq_skeleton, k1_part3_eq_skeleton, k1_part4_eq_skeleton, k1_part5_eq_skeleton]
  unfold owns
  iintro ⟨⟨%f0, %hf0, H0⟩, ⟨%d1, %f1, -, H1⟩, Hk⟩
  obtain rfl := harg1.eq_unread hf0
  sl_exec
  sl_step
  iapply Hk
  isplitl [H0]
  · iexists _; isplitr; · ipureintro; exact harg1.read_unread _
    iexact H0
  iexists _; isplitr
  swap; · iexact H1
  ipureintro
  sl_unfold_words
  simp only [View.readAt_eq_ld, harg1.read_unread, View.ld_unit_zero (S := S1x9x131072) z3_1]
  exact View.read_writes_full (s := S1x9x131072) _ _ _ _ _

variable (V : (c : Dev nD) → Valuation τ sig (Elt F))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data: the arrays as the region finds them, the input's buffer at its block, the output's at the body's result. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => out1 (blk1 V c 0 t)
  Φ _ := Pipeline.scopedRest spec1 c
  q _ := fullShare
  owed _ := 0

theorem A1_eq (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = out1 (blk1 V c 0 t) := by dsimp only [dat1]

/-- The input's buffer holds its block when the body runs. -/
theorem before1_0 (c : Dev nD) (t : Fin cfg1.N) (d) : (dat1 V c).before 0 t d = blk1 V c 0 t :=
  ((dat1 V c).before_in_eq_fetched 0 rfl (fun _ => rfl) (fun _ _ _ => rfl) (fun t => by dsimp only [dat1]; unfold Dat.blockOf blk1; rfl) t d).trans
    (by unfold Dat.fetched Dat.blockOf blk1; rfl)

set_option maxHeartbeats 800000 in
/-- The body obligation of the region: at every point the body takes the buffers as the proof data say before it to as they say after. -/
theorem body1 (c : Dev nD) : BodyObligation (dat1 V c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  simp only [before1_0]
  rw [show (dat1 V c).Φ t.succ = (dat1 V c).Φ t.castSucc from rfl,
    show (dat1 V c).owesAt () t.succ = (dat1 V c).owesAt () t.castSucc from rfl, after1_0, after1_1]
  unfold bodyAt1
  iintro ⟨HΦ, Ho, ⟨%d0, H0⟩, ⟨%d1, H1⟩⟩
  iapply (run1 c (grid1.coords t) _ _ _ _ (blk1 V c 0 t) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

end Cert.KernelIdeal.Own

end
-- ==== Proof.Rank2Body.lean ====
/-
  The second rank kernel (region 2): what its body leaves in the output's staging buffer at one grid point, as a function of
  the buffer's contents before and of the six input blocks.
-/
module

public import proofs.«01_k».proof.Proof.Gen.KernelIdeal.Skeleton
public import proofs.«01_k».proof.Proof.Gen.KernelIdeal.Points
public import proofs.«01_k».proof.Proof.Rank0Body
public import Idealize.ShloMosaic.Lib.Pipeline.Value
public import Idealize.ShloMosaic.Lib.Tactic
public import Idealize.ShloMosaic.Lib.WordCmp
public import Idealize.ShloMosaic.Lib.VecWindow

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- The body resets its accumulator at this point: the last grid coordinate is zero. -/
abbrev first2 (i : grid2.Coords) : Prop := (Scalar.cmpi .ne (Scalar.extui (Scalar.cmpi .eq (BitVec.ofNat 32 (i 2).val) 0#32)) 0#32) = 1#1

/-- The block pair has an equal pair of first keys, as the body tests it. -/
abbrev ties2 (x0 : Vec F S1x2048x1 .f32) (x3 : Vec F S1x1x2048 .f32) : Prop :=
  Scalar.cmpi .ne (Scalar.extui (Scalar.cmpf .ogt (k2_pay1 (F := F) (k2_pay10 x0 x3)) (Scalar.ofBits .f32 0x00000000#32))) 0#32 = 1#1

open Classical in
/-- The accumulator after the first half: reset where the point is a first one, plus the counts of strictly smaller first keys. -/
def half2 (i : grid2.Coords) (x0 : Vec F S1x2048x1 .f32) (x3 : Vec F S1x1x2048 .f32) (acc : Vec F S1x2048x1 .i32) : Vec F S1x2048x1 .i32 :=
  k2_pay11 x0 x3 (if first2 i then k2_pay3 else acc)

open Classical in
/-- The accumulator after the body: the counts of the pairs with equal first keys added where there are any. -/
def step2 (i : grid2.Coords) (x0 x1 x2 : Vec F S1x2048x1 .f32) (x3 x4 x5 : Vec F S1x1x2048 .f32) (acc : Vec F S1x2048x1 .i32) : Vec F S1x2048x1 .i32 :=
  if ties2 x0 x3 then
    k2_pay2 (BitVec.ofNat 32 (i 1).val) (BitVec.ofNat 32 (i 2).val) (k2_pay5 x1) (k2_pay6 x2) (k2_pay8 x4) (k2_pay9 x5) (k2_pay10 x0 x3) (half2 i x0 x3 acc)
  else half2 i x0 x3 acc

set_option maxHeartbeats 4000000 in
/-- THE BODY at one point: on whole staging buffers, the inputs' at their blocks and the output's at `acc`, it runs to the
    continuation with the inputs' as they were and the output's at `step2`. -/
theorem run2 (c : Dev nD) (i : grid2.Coords) (arg3 : Memref sig .tc .vmem S1x2048x1 .f32) (harg3 : arg3.IsWhole) (arg4 : Memref sig .tc .vmem S1x2048x1 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x2048x1 .i32) (harg9 : arg9.IsWhole)
    (x0 x1 x2 : Vec F S1x2048x1 .f32) (x3 x4 x5 : Vec F S1x1x2048 .f32) (acc : Vec F S1x2048x1 .i32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare acc
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (step2 i x0 x1 x2 x3 x4 x5 acc)) -∗ K ⟨⟩))
      ⊢ wp frame (wpE (defs₀ (F := F)) Variants.none c none) E (cc2__rank_body i arg3 harg3 arg4 harg4 arg5 harg5 arg6 harg6 arg7 harg7 arg8 harg8 arg9 harg9) K := by
  simp only [cc2__rank_body_eq_skeleton]; unfold cc2__rank_body_skel
  simp only [k2_part1_eq_skeleton]
  unfold owns
  by_cases h0 : first2 i
  all_goals
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact h0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; isplitr
    swap; · iexact H6
    ipureintro
    sl_unfold_words
    simp only [View.readAt_eq_ld, harg3.read_unread, harg4.read_unread, harg5.read_unread, harg6.read_unread, harg7.read_unread, harg8.read_unread, harg9.read_unread, View.ld_unit_zero (S := S1x1x2048) zeros3, View.ld_unit_zero (S := S1x2048x1) zeros3, View.readCov_unit_zero (S := S1x2048x1) _ zeros3]
    unfold step2 half2
    first
    | rw [if_pos h0]
    | rw [if_neg h0]
    split
    · refine (View.read_writes_full (s := S1x2048x1) _ _ _ _ _).trans ?_
      first
      | with_reducible rfl
      | exact congrArg _ (View.readCov_full (s := S1x2048x1) _ _ _ _ _)
    · exact View.read_writes_full (s := S1x2048x1) _ _ _ _ _

end Cert.KernelIdeal.Own

end
-- ==== Proof.Rank2.lean ====
/-
  The second rank kernel (region 2) over its grid: the proof data — the accumulator's contents after each point as a fold over
  the points of its run — and the body obligation, from any contents of the arrays at the region's entry.
-/
module

public import proofs.«01_k».proof.Proof.Rank2Body

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → Valuation τ sig (Elt F))

/-- The points of the first kind, in closed form. -/
theorem first2_iff (t : Fin cfg2.N) : first2 (grid2.coords t) ↔ t.val % 64 = 0 := by
  have ht : t.val < 65536 := Nat.lt_of_lt_of_eq t.isLt N_2
  have e2 : (grid2.coords t 2).val = t.val / 1 % 64 := Pipeline.Grid.coords_val t 2 (by decide) rfl
  simp only [first2, e2]
  word_cmp

/-- Window `w`'s block at point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body leaves in the accumulator at point `n`, over the contents before it. -/
def at2 (c : Dev nD) (n : ℕ) (h : n < cfg2.N) (acc : Vec F S1x2048x1 .i32) : Vec F S1x2048x1 .i32 :=
  step2 (grid2.coords ⟨n, h⟩) (blk2 V c 0 ⟨n, h⟩) (blk2 V c 1 ⟨n, h⟩) (blk2 V c 2 ⟨n, h⟩) (blk2 V c 3 ⟨n, h⟩) (blk2 V c 4 ⟨n, h⟩) (blk2 V c 5 ⟨n, h⟩) acc

/-- The same at a first point, where the contents before do not matter: over zero. -/
def start2 (c : Dev nD) (n : ℕ) (h : n < cfg2.N) : Vec F S1x2048x1 .i32 := at2 V c n h k2_pay3

/-- At a first point the contents before do not matter. -/
theorem at2_first (c : Dev nD) (t : Fin cfg2.N) (h : t.val % 64 = 0) (acc : Vec F S1x2048x1 .i32) :
    at2 V c t.val t.isLt acc = start2 V c t.val t.isLt := by
  unfold start2 at2 step2 half2
  rw [if_pos ((first2_iff t).mpr h), if_pos ((first2_iff t).mpr h)]

/-- The accumulator after point `n`: the fold over its run up to `n`. -/
def acc2 (c : Dev nD) (t : Fin cfg2.N) : Vec F S1x2048x1 .i32 :=
  Pipeline.accAt (start2 V c) (at2 V c) (64 * (t.val / 64)) (t.val % 64)
    (by have h1 := t.isLt; have h2 := Nat.div_add_mod t.val 32; omega)

theorem fold2_congr (c : Dev nD) (b j : ℕ) (h : b + j < cfg2.N) (b' j' : ℕ) (h' : b' + j' < cfg2.N) (hb : b = b') (hj : j = j') :
    Pipeline.accAt (start2 V c) (at2 V c) b j h = Pipeline.accAt (start2 V c) (at2 V c) b' j' h' := by
  subst hb; subst hj; rfl

theorem acc2_first (c : Dev nD) (t : Fin cfg2.N) (h : t.val % 64 = 0) : acc2 V c t = start2 V c t.val t.isLt := by
  unfold acc2
  rw [fold2_congr V c _ _ _ t.val 0 (by simpa using t.isLt) (by omega) h]
  rfl

theorem acc2_next (c : Dev nD) (t : Fin cfg2.N) (h : ¬t.val % 64 = 0) :
    acc2 V c t = at2 V c t.val t.isLt (acc2 V c ⟨t.val - 1, Nat.lt_of_le_of_lt (Nat.sub_le _ _) t.isLt⟩) := by
  have ht := t.isLt
  unfold acc2
  dsimp only
  rw [fold2_congr V c _ _ _ (64 * ((t.val - 1) / 64)) ((t.val - 1) % 64 + 1) (by omega) (by omega) (by omega)]
  have key : ∀ (n : ℕ) (hn : n < cfg2.N) (k : ℕ) (hk : k < cfg2.N) (x : Vec F S1x2048x1 .i32), n = k → at2 V c n hn x = at2 V c k hk x := by
    intro n hn k hk x e; subst e; rfl
  show at2 V c (64 * ((t.val - 1) / 64) + ((t.val - 1) % 64 + 1)) _ _ = _
  exact key _ _ _ _ _ (by omega)

/-- The region's proof data: the arrays as the region finds them, each input's buffer at its block, the output's at the fold. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => acc2 V c t
  Φ _ := Pipeline.scopedRest spec2 c
  q _ := fullShare
  owed _ := 0

theorem A2_eq (c : Dev nD) (w : Fin cfg2.W) : (dat2 V c).A w = V c (Pipeline.arrRef spec2 w) := by dsimp only [dat2]
theorem after2_6 (c : Dev nD) (t : Fin cfg2.N) : (dat2 V c).after 6 t = acc2 V c t := by dsimp only [dat2]

/-- Each input's buffer holds its block when the body runs, whether fetched at this point or before. -/
theorem before2_0 (c : Dev nD) (t : Fin cfg2.N) (d) : (dat2 V c).before 0 t d = blk2 V c 0 t :=
  ((dat2 V c).before_in_eq_fetched 0 rfl (fun _ => rfl) (fun _ _ _ => rfl) (fun t => by dsimp only [dat2]; unfold Dat.blockOf blk2; rfl) t d).trans
    (by unfold Dat.fetched Dat.blockOf blk2; rfl)
theorem before2_1 (c : Dev nD) (t : Fin cfg2.N) (d) : (dat2 V c).before 1 t d = blk2 V c 1 t :=
  ((dat2 V c).before_in_eq_fetched 1 rfl (fun _ => rfl) (fun _ _ _ => rfl) (fun t => by dsimp only [dat2]; unfold Dat.blockOf blk2; rfl) t d).trans
    (by unfold Dat.fetched Dat.blockOf blk2; rfl)
theorem before2_2 (c : Dev nD) (t : Fin cfg2.N) (d) : (dat2 V c).before 2 t d = blk2 V c 2 t :=
  ((dat2 V c).before_in_eq_fetched 2 rfl (fun _ => rfl) (fun _ _ _ => rfl) (fun t => by dsimp only [dat2]; unfold Dat.blockOf blk2; rfl) t d).trans
    (by unfold Dat.fetched Dat.blockOf blk2; rfl)
theorem before2_3 (c : Dev nD) (t : Fin cfg2.N) (d) : (dat2 V c).before 3 t d = blk2 V c 3 t :=
  ((dat2 V c).before_in_eq_fetched 3 rfl (fun _ => rfl) (fun _ _ _ => rfl) (fun t => by dsimp only [dat2]; unfold Dat.blockOf blk2; rfl) t d).trans
    (by unfold Dat.fetched Dat.blockOf blk2; rfl)
theorem before2_4 (c : Dev nD) (t : Fin cfg2.N) (d) : (dat2 V c).before 4 t d = blk2 V c 4 t :=
  ((dat2 V c).before_in_eq_fetched 4 rfl (fun _ => rfl) (fun _ _ _ => rfl) (fun t => by dsimp only [dat2]; unfold Dat.blockOf blk2; rfl) t d).trans
    (by unfold Dat.fetched Dat.blockOf blk2; rfl)
theorem before2_5 (c : Dev nD) (t : Fin cfg2.N) (d) : (dat2 V c).before 5 t d = blk2 V c 5 t :=
  ((dat2 V c).before_in_eq_fetched 5 rfl (fun _ => rfl) (fun _ _ _ => rfl) (fun t => by dsimp only [dat2]; unfold Dat.blockOf blk2; rfl) t d).trans
    (by unfold Dat.fetched Dat.blockOf blk2; rfl)

/-- At a later point of a run the accumulator holds what the point before left. -/
theorem before2_6 (c : Dev nD) (t : Fin cfg2.N) (h : ¬t.val % 64 = 0) (d) :
    (dat2 V c).before 6 t d = acc2 V c ⟨t.val - 1, Nat.lt_of_le_of_lt (Nat.sub_le _ _) t.isLt⟩ := by
  rw [Dat.before_out_kept _ 6 rfl t (by omega) (Bool.eq_false_iff.mpr fun h' => by have := (flush2_6 _).mp h'; dsimp only at this; omega)
    (fun _ => rfl) (fun _ _ => rfl)]
  dsimp only [dat2]

/-- The body at point `t` over the accumulator's contents before leaves the fold. -/
theorem at2_before (c : Dev nD) (t : Fin cfg2.N) (d) : at2 V c t.val t.isLt ((dat2 V c).before 6 t d) = acc2 V c t := by
  by_cases h : t.val % 64 = 0
  · rw [at2_first V c t h, acc2_first V c t h]
  · rw [before2_6 V c t h, acc2_next V c t h]

set_option maxHeartbeats 800000 in
/-- The body obligation of the region: at every point the body takes the buffers as the proof data say before it to as they say after. -/
theorem body2 (c : Dev nD) : BodyObligation (dat2 V c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  simp only [before2_0, before2_1, before2_2, before2_3, before2_4, before2_5]
  rw [show (dat2 V c).Φ t.succ = (dat2 V c).Φ t.castSucc from rfl,
    show (dat2 V c).owesAt () t.succ = (dat2 V c).owesAt () t.castSucc from rfl, after2_6]
  unfold bodyAt2
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run2 c (grid2.coords t) _ _ _ _ _ _ _ _ _ _ _ _ _ _ (blk2 V c 0 t) (blk2 V c 1 t) (blk2 V c 2 t) (blk2 V c 3 t) (blk2 V c 4 t) (blk2 V c 5 t) ((dat2 V c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  rw [show step2 (grid2.coords t) (blk2 V c 0 t) (blk2 V c 1 t) (blk2 V c 2 t) (blk2 V c 3 t) (blk2 V c 4 t) (blk2 V c 5 t) ((dat2 V c).before 6 t d6) = acc2 V c t from at2_before V c t d6]
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

end Cert.KernelIdeal.Own

end
-- ==== Proof.Recon3.lean ====
/-
  The reconstruction kernel (region 3): what its body leaves, its proof data and its body obligation, from any contents of the arrays at the
  region's entry.
-/
module

public import proofs.«01_k».proof.Proof.Gen.KernelIdeal.Skeleton
public import proofs.«01_k».proof.Proof.Gen.KernelIdeal.Points
public import proofs.«01_k».proof.Proof.RegionCore
public import Idealize.ShloMosaic.Lib.Pipeline.Value
public import Idealize.ShloMosaic.Lib.Tactic
public import Idealize.ShloMosaic.Lib.VecWindow

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

theorem z3_3 : (![0, 0, 0] : Fin 3 → Nat) = fun _ => 0 := funext fun a => by fin_cases a <;> rfl

/-- What the body leaves in the output's staging buffer. -/
def out3 (x0 : Vec F S1x9216x128 .i32) : Vec F S1x9216x128 .f32 := k3_pay1 x0

set_option maxHeartbeats 1000000 in
/-- THE BODY at one point: on whole staging buffers, the input's at `x0` and the output's at anything, it runs to the
    continuation with the output's at `out3 x0`. -/
theorem run3 (c : Dev nD) (i : grid3.Coords) (arg1 : Memref sig .tc .vmem S1x9216x128 .i32) (harg1 : arg1.IsWhole) (arg2 : Memref sig .tc .vmem S1x9216x128 .f32) (harg2 : arg2.IsWhole)
    (x0 : Vec F S1x9216x128 .i32) (E : Set ℕ) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3 x0)) -∗ K ⟨⟩))
      ⊢ wp frame (wpE (defs₀ (F := F)) Variants.none c none) E (cc3__recon_body i arg1 harg1 arg2 harg2) K := by
  simp only [cc3__recon_body_eq_skeleton]; unfold cc3__recon_body_skel
  unfold owns
  iintro ⟨⟨%f0, %hf0, H0⟩, ⟨%d1, %f1, -, H1⟩, Hk⟩
  obtain rfl := harg1.eq_unread hf0
  sl_exec
  sl_step
  iapply Hk
  isplitl [H0]
  · iexists _; isplitr; · ipureintro; exact harg1.read_unread _
    iexact H0
  iexists _; isplitr
  swap; · iexact H1
  ipureintro
  sl_unfold_words
  simp only [View.readAt_eq_ld, harg1.read_unread, View.ld_unit_zero (S := S1x9216x128) z3_3]
  exact View.read_writes_full (s := S1x9216x128) _ _ _ _ _

variable (V : (c : Dev nD) → Valuation τ sig (Elt F))

/-- Window `w`'s block at point `t`, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The region's proof data: the arrays as the region finds them, the input's buffer at its block, the output's at the body's result. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => out3 (blk3 V c 0 t)
  Φ _ := Pipeline.scopedRest spec3 c
  q _ := fullShare
  owed _ := 0

theorem A3_eq (c : Dev nD) (w : Fin cfg3.W) : (dat3 V c).A w = V c (Pipeline.arrRef spec3 w) := by dsimp only [dat3]
theorem after3_0 (c : Dev nD) (t : Fin cfg3.N) : (dat3 V c).after 0 t = blk3 V c 0 t := by dsimp only [dat3]
theorem after3_1 (c : Dev nD) (t : Fin cfg3.N) : (dat3 V c).after 1 t = out3 (blk3 V c 0 t) := by dsimp only [dat3]

/-- The input's buffer holds its block when the body runs. -/
theorem before3_0 (c : Dev nD) (t : Fin cfg3.N) (d) : (dat3 V c).before 0 t d = blk3 V c 0 t :=
  ((dat3 V c).before_in_eq_fetched 0 rfl (fun _ => rfl) (fun _ _ _ => rfl) (fun t => by dsimp only [dat3]; unfold Dat.blockOf blk3; rfl) t d).trans
    (by unfold Dat.fetched Dat.blockOf blk3; rfl)

set_option maxHeartbeats 800000 in
/-- The body obligation of the region: at every point the body takes the buffers as the proof data say before it to as they say after. -/
theorem body3 (c : Dev nD) : BodyObligation (dat3 V c) (defs₀ (F := F)) Variants.none () Set.univ := fun t => by
  rw [bigSep_W3, bigSep_W3, show defs₀ (F := F) .tc cfg3.body (cfg3.bodyArgs t (cfg3.slots t)) = bodyAt3 t from by unfold defs₀; rw [Defs.onTc_tc]]
  simp only [before3_0]
  rw [show (dat3 V c).Φ t.succ = (dat3 V c).Φ t.castSucc from rfl,
    show (dat3 V c).owesAt () t.succ = (dat3 V c).owesAt () t.castSucc from rfl, after3_0, after3_1]
  unfold bodyAt3
  iintro ⟨HΦ, Ho, ⟨%d0, H0⟩, ⟨%d1, H1⟩⟩
  iapply (run3 c (grid3.coords t) _ _ _ _ (blk3 V c 0 t) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

end Cert.KernelIdeal.Own

end
-- ==== Proof.Run.lean ====
/-
  The whole launch: the contents of the buffers between the regions and host stretches, the four regions' proof data, and the
  theorem that every execution ends with the results at what those contents say.
-/
module

public import proofs.«01_k».proof.Proof.RegionCore
public import proofs.«01_k».proof.Proof.Rank0
public import proofs.«01_k».proof.Proof.Face1
public import proofs.«01_k».proof.Proof.Rank2
public import proofs.«01_k».proof.Proof.Recon3

@[expose] public section

set_option maxRecDepth 16384

noncomputable section

namespace Cert.KernelIdeal.Own

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

local notation "𝕄" => MT nD τ sig Unit (Elt F) ℕ (UR sig nD τ) ℕ

variable (V : (c : Dev nD) → Valuation τ sig (Elt F))

theorem upd_self (W : Valuation τ sig (Elt F)) (r : Ref sig .tc) (x) : (Function.update W r x : Valuation τ sig (Elt F)) r = x :=
  Function.update_self (f := W) _ _

/-- An array other than `r`'s keeps its contents under the update at `r`. -/
theorem upd_ne (W : Valuation τ sig (Elt F)) (r b : Ref sig .tc) (x) (h : b ≠ r) : (Function.update W r x : Valuation τ sig (Elt F)) b = W b :=
  Function.update_of_ne (fun e => h (Proc.devRef_injective _ e)) _ _

/-- The contents after the first rank region: the output's array at what the region leaves. -/
def post0 (c : Dev nD) : Valuation τ sig (Elt F) := Function.update (V c) main_v24 ((dat0 V c).arrAt 6 cfg0.N)

set_option maxHeartbeats 4000000 in
theorem post0_arr (c : Dev nD) (w : Fin cfg0.W) : (dat0 V c).arrAt w cfg0.N = post0 V c (Pipeline.arrRef spec0 w) := by
  unfold post0
  fin_cases w
  · show (dat0 V c).arrAt 0 cfg0.N = (Function.update (V c) main_v24 _ : Valuation τ sig (Elt F)) main_v18
    rw [upd_ne _ _ _ _ (by decide), (dat0 V c).arrAt_in 0 rfl]; rfl
  · show (dat0 V c).arrAt 1 cfg0.N = (Function.update (V c) main_v24 _ : Valuation τ sig (Elt F)) main_v19
    rw [upd_ne _ _ _ _ (by decide), (dat0 V c).arrAt_in 1 rfl]; rfl
  · show (dat0 V c).arrAt 2 cfg0.N = (Function.update (V c) main_v24 _ : Valuation τ sig (Elt F)) main_v20
    rw [upd_ne _ _ _ _ (by decide), (dat0 V c).arrAt_in 2 rfl]; rfl
  · show (dat0 V c).arrAt 3 cfg0.N = (Function.update (V c) main_v24 _ : Valuation τ sig (Elt F)) main_v21
    rw [upd_ne _ _ _ _ (by decide), (dat0 V c).arrAt_in 3 rfl]; rfl
  · show (dat0 V c).arrAt 4 cfg0.N = (Function.update (V c) main_v24 _ : Valuation τ sig (Elt F)) main_v22
    rw [upd_ne _ _ _ _ (by decide), (dat0 V c).arrAt_in 4 rfl]; rfl
  · show (dat0 V c).arrAt 5 cfg0.N = (Function.update (V c) main_v24 _ : Valuation τ sig (Elt F)) main_v23
    rw [upd_ne _ _ _ _ (by decide), (dat0 V c).arrAt_in 5 rfl]; rfl
  · exact (upd_self _ _ _).symm

theorem post0_ne (c : Dev nD) (b : Ref sig .tc) (hb : b ∉ Finset.univ.image (Pipeline.arrRef spec0)) : post0 V c b = V c b :=
  upd_ne _ _ _ _ fun e => hb (Finset.mem_image.mpr ⟨6, Finset.mem_univ _, e.symm⟩)

/-- The contents after the face region: the output's array at what the region leaves. -/
def post1 (c : Dev nD) : Valuation τ sig (Elt F) := Function.update (V c) main_v53 ((dat1 V c).arrAt 1 cfg1.N)

set_option maxHeartbeats 4000000 in
theorem post1_arr (c : Dev nD) (w : Fin cfg1.W) : (dat1 V c).arrAt w cfg1.N = post1 V c (Pipeline.arrRef spec1 w) := by
  unfold post1
  fin_cases w
  · show (dat1 V c).arrAt 0 cfg1.N = (Function.update (V c) main_v53 _ : Valuation τ sig (Elt F)) main_v52
    rw [upd_ne _ _ _ _ (by decide), (dat1 V c).arrAt_in 0 rfl]; rfl
  · exact (upd_self _ _ _).symm

theorem post1_ne (c : Dev nD) (b : Ref sig .tc) (hb : b ∉ Finset.univ.image (Pipeline.arrRef spec1)) : post1 V c b = V c b :=
  upd_ne _ _ _ _ fun e => hb (Finset.mem_image.mpr ⟨1, Finset.mem_univ _, e.symm⟩)

/-- The contents after the second rank region: the output's array at what the region leaves. -/
def post2 (c : Dev nD) : Valuation τ sig (Elt F) := Function.update (V c) main_v69 ((dat2 V c).arrAt 6 cfg2.N)

set_option maxHeartbeats 4000000 in
theorem post2_arr (c : Dev nD) (w : Fin cfg2.W) : (dat2 V c).arrAt w cfg2.N = post2 V c (Pipeline.arrRef spec2 w) := by
  unfold post2
  fin_cases w
  · show (dat2 V c).arrAt 0 cfg2.N = (Function.update (V c) main_v69 _ : Valuation τ sig (Elt F)) main_v63
    rw [upd_ne _ _ _ _ (by decide), (dat2 V c).arrAt_in 0 rfl]; rfl
  · show (dat2 V c).arrAt 1 cfg2.N = (Function.update (V c) main_v69 _ : Valuation τ sig (Elt F)) main_v64
    rw [upd_ne _ _ _ _ (by decide), (dat2 V c).arrAt_in 1 rfl]; rfl
  · show (dat2 V c).arrAt 2 cfg2.N = (Function.update (V c) main_v69 _ : Valuation τ sig (Elt F)) main_v65
    rw [upd_ne _ _ _ _ (by decide), (dat2 V c).arrAt_in 2 rfl]; rfl
  · show (dat2 V c).arrAt 3 cfg2.N = (Function.update (V c) main_v69 _ : Valuation τ sig (Elt F)) main_v66
    rw [upd_ne _ _ _ _ (by decide), (dat2 V c).arrAt_in 3 rfl]; rfl
  · show (dat2 V c).arrAt 4 cfg2.N = (Function.update (V c) main_v69 _ : Valuation τ sig (Elt F)) main_v67
    rw [upd_ne _ _ _ _ (by decide), (dat2 V c).arrAt_in 4 rfl]; rfl
  · show (dat2 V c).arrAt 5 cfg2.N = (Function.update (V c) main_v69 _ : Valuation τ sig (Elt F)) main_v68
    rw [upd_ne _ _ _ _ (by decide), (dat2 V c).arrAt_in 5 rfl]; rfl
  · exact (upd_self _ _ _).symm

theorem post2_ne (c : Dev nD) (b : Ref sig .tc) (hb : b ∉ Finset.univ.image (Pipeline.arrRef spec2)) : post2 V c b = V c b :=
  upd_ne _ _ _ _ fun e => hb (Finset.mem_image.mpr ⟨6, Finset.mem_univ _, e.symm⟩)

/-- The contents after the reconstruction region: the output's array at what the region leaves. -/
def post3 (c : Dev nD) : Valuation τ sig (Elt F) := Function.update (V c) main_v92 ((dat3 V c).arrAt 1 cfg3.N)

set_option maxHeartbeats 4000000 in
theorem post3_arr (c : Dev nD) (w : Fin cfg3.W) : (dat3 V c).arrAt w cfg3.N = post3 V c (Pipeline.arrRef spec3 w) := by
  unfold post3
  fin_cases w
  · show (dat3 V c).arrAt 0 cfg3.N = (Function.update (V c) main_v92 _ : Valuation τ sig (Elt F)) main_v91
    rw [upd_ne _ _ _ _ (by decide), (dat3 V c).arrAt_in 0 rfl]; rfl
  · exact (upd_self _ _ _).symm

theorem post3_ne (c : Dev nD) (b : Ref sig .tc) (hb : b ∉ Finset.univ.image (Pipeline.arrRef spec3)) : post3 V c b = V c b :=
  upd_ne _ _ _ _ fun e => hb (Finset.mem_image.mpr ⟨1, Finset.mem_univ _, e.symm⟩)

variable (m : (ℓ : Loc nD τ sig) → Buf (Elt F) ℓ)

/-- The buffers as the first rank region finds them. -/
def W1 (c : Dev nD) : Valuation τ sig (Elt F) := V1 m c
/-- After the first rank region. -/
def W2 (c : Dev nD) : Valuation τ sig (Elt F) := post0 (W1 m) c
/-- As the face region finds them. -/
def W3 (c : Dev nD) : Valuation τ sig (Elt F) := StableHlo.after hostOps1 (W2 m c)
/-- After the face region. -/
def W4 (c : Dev nD) : Valuation τ sig (Elt F) := post1 (W3 m) c
/-- As the second rank region finds them. -/
def W5 (c : Dev nD) : Valuation τ sig (Elt F) := StableHlo.after hostOps2 (W4 m c)
/-- After the second rank region. -/
def W6 (c : Dev nD) : Valuation τ sig (Elt F) := post2 (W5 m) c
/-- As the reconstruction region finds them. -/
def W7 (c : Dev nD) : Valuation τ sig (Elt F) := StableHlo.after hostOps3 (W6 m c)
/-- After the reconstruction region. -/
def W8 (c : Dev nD) : Valuation τ sig (Elt F) := post3 (W7 m) c
/-- At the end. -/
def W9 (c : Dev nD) : Valuation τ sig (Elt F) := StableHlo.after hostOps4 (W8 m c)

/-- What the regions leave in their arrays. -/
def outs : Outs (F := F) := fun k r c => match k with
  | 2 => W2 m c r
  | 4 => W4 m c r
  | 6 => W6 m c r
  | _ => W8 m c r

theorem V1_eq (c : Dev nD) : V1 m c = W1 m c := rfl
theorem outs_0 (c : Dev nD) : outs m 2 main_v24 c = (dat0 (W1 m) c).arrAt 6 cfg0.N := by
  show W2 m c main_v24 = _
  unfold W2 post0
  exact upd_self (W1 m c) main_v24 _
theorem V2_eq (c : Dev nD) : V2 m (outs m) c = W2 m c := by
  unfold V2; rw [outs_0, V1_eq]; rfl
theorem V3_eq (c : Dev nD) : V3 m (outs m) c = W3 m c := by unfold V3 W3; rw [V2_eq]
theorem outs_1 (c : Dev nD) : outs m 4 main_v53 c = (dat1 (W3 m) c).arrAt 1 cfg1.N := by
  show W4 m c main_v53 = _
  unfold W4 post1
  exact upd_self (W3 m c) main_v53 _
theorem V4_eq (c : Dev nD) : V4 m (outs m) c = W4 m c := by
  unfold V4; rw [outs_1, V3_eq]; rfl
theorem V5_eq (c : Dev nD) : V5 m (outs m) c = W5 m c := by unfold V5 W5; rw [V4_eq]
theorem outs_2 (c : Dev nD) : outs m 6 main_v69 c = (dat2 (W5 m) c).arrAt 6 cfg2.N := by
  show W6 m c main_v69 = _
  unfold W6 post2
  exact upd_self (W5 m c) main_v69 _
theorem V6_eq (c : Dev nD) : V6 m (outs m) c = W6 m c := by
  unfold V6; rw [outs_2, V5_eq]; rfl
theorem V7_eq (c : Dev nD) : V7 m (outs m) c = W7 m c := by unfold V7 W7; rw [V6_eq]
theorem outs_3 (c : Dev nD) : outs m 8 main_v92 c = (dat3 (W7 m) c).arrAt 1 cfg3.N := by
  show W8 m c main_v92 = _
  unfold W8 post3
  exact upd_self (W7 m c) main_v92 _
theorem V8_eq (c : Dev nD) : V8 m (outs m) c = W8 m c := by
  unfold V8; rw [outs_3, V7_eq]; rfl
theorem V9_eq (c : Dev nD) : V9 m (outs m) c = W9 m c := by unfold V9 W9; rw [V8_eq]

/-- The four regions' proof data. -/
def pdats : Dats (F := F) := fun p c => match p with
  | 0 => dat0 (W1 m) c
  | 1 => dat1 (W3 m) c
  | 2 => dat2 (W5 m) c
  | 3 => dat3 (W7 m) c

/-- The first rank region as a segment. -/
def reg0 : RegionSeg (pcfgs (F := F)) adm (pdats m) () defs₀ Variants.none lvSet lvOf 0 :=
  regionSeg 0 launch0 (pdats m) (fun c => body0 (W1 m) c) (fun _ _ => rfl) (fun _ => rfl) (fun _ _ => rfl) (fun _ _ => rfl) (W1 m) (W2 m)
    (fun c w => A0_eq (W1 m) c w) (fun c w => post0_arr (W1 m) c w) (fun c b hb => post0_ne (W1 m) c b hb)

/-- The face region as a segment. -/
def reg1 : RegionSeg (pcfgs (F := F)) adm (pdats m) () defs₀ Variants.none lvSet lvOf 1 :=
  regionSeg 1 launch1 (pdats m) (fun c => body1 (W3 m) c) (fun _ _ => rfl) (fun _ => rfl) (fun _ _ => rfl) (fun _ _ => rfl) (W3 m) (W4 m)
    (fun c w => A1_eq (W3 m) c w) (fun c w => post1_arr (W3 m) c w) (fun c b hb => post1_ne (W3 m) c b hb)

/-- The second rank region as a segment. -/
def reg2 : RegionSeg (pcfgs (F := F)) adm (pdats m) () defs₀ Variants.none lvSet lvOf 2 :=
  regionSeg 2 launch2 (pdats m) (fun c => body2 (W5 m) c) (fun _ _ => rfl) (fun _ => rfl) (fun _ _ => rfl) (fun _ _ => rfl) (W5 m) (W6 m)
    (fun c w => A2_eq (W5 m) c w) (fun c w => post2_arr (W5 m) c w) (fun c b hb => post2_ne (W5 m) c b hb)

/-- The reconstruction region as a segment. -/
def reg3 : RegionSeg (pcfgs (F := F)) adm (pdats m) () defs₀ Variants.none lvSet lvOf 3 :=
  regionSeg 3 launch3 (pdats m) (fun c => body3 (W7 m) c) (fun _ _ => rfl) (fun _ => rfl) (fun _ _ => rfl) (fun _ _ => rfl) (W7 m) (W8 m)
    (fun c w => A3_eq (W7 m) c w) (fun c w => post3_arr (W7 m) c w) (fun c b hb => post3_ne (W7 m) c b hb)

/-- The launch's ghost resources: every buffer's round tokens. -/
def u0 : UR sig nD τ := initOf (Pipeline.cells cfgs cellOf_inj) (Pipeline.launchToks cfgs cellOf_inj)

/-- The rounds algebra inside the machine's. -/
def roundsIn : Emb (UR sig nD τ) 𝕄 :=
  (Emb.refl _).trans (uEmb (nD := nD) (sig := sig) (Ix := Unit) (Val := Elt F) (Name := ℕ) (U := UR sig nD τ) (Lvl := ℕ)).toEmb

instance roundsIn_lands : (roundsIn (F := F) : Emb (UR sig nD τ) 𝕄).LandsIn (upEmb : UEmb _ 𝕄) := by unfold roundsIn; infer_instance

/-- What every execution ends with: arguments as launched, results at `W9`. -/
def EndsAt (c : Dev nD) (mem : (ℓ : Loc nD τ sig) → Buf (Elt F) ℓ) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_v93) = W9 m c main_v93
  ∧ mem ((c.tc : Thread nD τ).loc main_v94) = W9 m c main_v94
  ∧ mem ((c.tc : Thread nD τ).loc main_v96) = W9 m c main_v96
  ∧ mem ((c.tc : Thread nD τ).loc main_v99) = W9 m c main_v99

set_option backward.isDefEq.respectTransparency.types false in
set_option maxHeartbeats 800000 in
/-- THE LAUNCH: every execution terminates, nothing faulting, with the arguments unchanged, the results at `W9` and every
    semaphore at zero. -/
theorem run_main (ρ : Dev nD → PrngReg) :
    θ_run defs (onTc (τ := τ) (main (F := F))) ⟨m, fun _ => 0, ρ⟩ (fun r => (∀ c : Dev nD, EndsAt m c r.2.mem) ∧ r.2.sem = fun _ => 0) := by
  refine Pipeline.θ_run_regions_kit_dev_sems (pcfgs (F := F)) adm (pdats m) () cellOf_inj (roundsIn (F := F)) defs₀ Variants.none lvSet lvOf m ρ main
    (segs m (outs m) Variants.none lvSet lvOf (fun _ c => rest c) () (pdats m) (reg0 m) (reg1 m) (reg2 m) (reg3 m))
    (fun c Q => by
      rewrite [main_chain c, Seg.run_eq_chain,
        show (segs m (outs m) Variants.none lvSet lvOf (fun _ c => rest c) () (pdats m) (reg0 m) (reg1 m) (reg2 m) (reg3 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      dsimp (config := { failIfUnchanged := false }) only
      exact .rfl)
    (fun c => by simp only [segs, Seg.pipes_host, Seg.pipes_region, Seg.pipes_nil]; decide) 0 (fun _ _ => rfl) (fun _ => BI.emp) u0 ?_
    (T₀ := fun c => iprop(StableHlo.held (c : Thread nD τ) (Pipeline.ucRefs τ sig) (V0 m c) ∗ rest c))
    (Tₙ := fun c => StableHlo.held (c : Thread nD τ) (Pipeline.ucRefs τ sig) (W9 m c))
    (hch := fun c => ?_)
    (hinit := ?_) (QY := fun c s => EndsAt m c s.mem)
    (hfin := fun c s' => ?_) (hQ := fun _ h hz => ⟨h, funext fun g => hz g (.inr (regions_no_unscoped g.2))⟩)
  · iintro Hu
    ihave Hu' := (show (ownU u0 : sProp 𝕄) ⊢ BI.own (roundsIn (F := F) (initOf (Pipeline.cells cfgs cellOf_inj) (Pipeline.launchToks cfgs cellOf_inj))) from BI.Entails.refl _) $$ Hu
    imodintro
    isplitl [Hu']; · iexact Hu'
    rw [bigSep_univ_of_subsingleton (0 : Dev nD)]
    iempintro
  · refine ⟨.rfl, .rfl, ?_, ?_, ?_, ?_, ?_, ?_, ?_, ?_⟩
    · show stateAt (W2 m) c ⊢ iprop(StableHlo.held (c : Thread nD τ) (Pipeline.ucRefs τ sig) (V2 m (outs m) c) ∗ rest c)
      rw [V2_eq]
    · show iprop(StableHlo.held (c : Thread nD τ) (Pipeline.ucRefs τ sig) (V3 m (outs m) c) ∗ rest c) ⊢ stateAt (W3 m) c
      rw [V3_eq]
    · show stateAt (W4 m) c ⊢ iprop(StableHlo.held (c : Thread nD τ) (Pipeline.ucRefs τ sig) (V4 m (outs m) c) ∗ rest c)
      rw [V4_eq]
    · show iprop(StableHlo.held (c : Thread nD τ) (Pipeline.ucRefs τ sig) (V5 m (outs m) c) ∗ rest c) ⊢ stateAt (W5 m) c
      rw [V5_eq]
    · show stateAt (W6 m) c ⊢ iprop(StableHlo.held (c : Thread nD τ) (Pipeline.ucRefs τ sig) (V6 m (outs m) c) ∗ rest c)
      rw [V6_eq]
    · show iprop(StableHlo.held (c : Thread nD τ) (Pipeline.ucRefs τ sig) (V7 m (outs m) c) ∗ rest c) ⊢ stateAt (W7 m) c
      rw [V7_eq]
    · show stateAt (W8 m) c ⊢ iprop(StableHlo.held (c : Thread nD τ) (Pipeline.ucRefs τ sig) (V8 m (outs m) c) ∗ rest c)
      rw [V8_eq]
    · show iprop(StableHlo.held (c : Thread nD τ) (Pipeline.ucRefs τ sig) (V9 m (outs m) c) ∗ rest c) ⊢ iprop(StableHlo.held (c : Thread nD τ) (Pipeline.ucRefs τ sig) (W9 m c) ∗ rest c)
      rw [V9_eq]
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (0 : Dev nD → CellTallies nD τ sig Unit) c ∗ prngReg c (ρ c) ∗ BI.emp))
        ⊢ (iprop(bigSep Finset.univ fun c : Dev nD => iprop(StableHlo.held (c : Thread nD τ) (Pipeline.ucRefs τ sig) (V0 m c) ∗ rest c))
            : sProp 𝕄) := by
      refine bigSep_mono fun c _ => ?_
      show iprop(unscopedBufs c (fun b => m ((c.tc : Thread nD τ).loc b)) ∗ unscopedSems0 c
          ∗ owes (c.tc : Thread nD τ) (0 : CellTallies nD τ sig Unit) ∅ ∗ Pipeline.launchCred (0 : Dev nD → CellTallies nD τ sig Unit) c ∗ prngReg c (ρ c) ∗ BI.emp)
        ⊢ (iprop(StableHlo.held (c : Thread nD τ) (Pipeline.ucRefs τ sig) (V0 m c) ∗ rest c) : sProp 𝕄)
      rw [← Pipeline.unscopedBufs_held (Ix := Unit) (Name := ℕ) (U := UR sig nD τ) (Lvl := ℕ) c (V0 m c)]
      iintro ⟨Hb, -, Ho, -⟩
      isplitl [Hb]; · iexact Hb
      iexists ∅; iexact Ho
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (W9 m c) s') $$ [Hh HSI]
    · isplitl [Hh] <;> iassumption
    icases Hr with ⟨%h, HSI⟩
    imodintro
    isplitr
    · ipureintro
      have rd : ∀ r : Ref sig .tc, ((Proc.devRef .tc r : DevRef τ sig) ∈ Pipeline.ucRefs τ sig) → s'.mem.mem ((c.tc : Thread nD τ).loc r) = W9 m c r :=
        fun r hr => h (Proc.devRef .tc r) hr
      exact ⟨(rd main_arg0 (Finset.mem_filter.mpr ⟨StableHlo.devRef_mem_tcRefs main_arg0, by decide⟩)).trans ((congrFun (V9_eq m c) _).symm.trans (V9_main_arg0 m (outs m) c)),
        (rd main_arg1 (Finset.mem_filter.mpr ⟨StableHlo.devRef_mem_tcRefs main_arg1, by decide⟩)).trans ((congrFun (V9_eq m c) _).symm.trans (V9_main_arg1 m (outs m) c)),
        rd main_v93 (Finset.mem_filter.mpr ⟨StableHlo.devRef_mem_tcRefs main_v93, by decide⟩),
        rd main_v94 (Finset.mem_filter.mpr ⟨StableHlo.devRef_mem_tcRefs main_v94, by decide⟩),
        rd main_v96 (Finset.mem_filter.mpr ⟨StableHlo.devRef_mem_tcRefs main_v96, by decide⟩),
        rd main_v99 (Finset.mem_filter.mpr ⟨StableHlo.devRef_mem_tcRefs main_v99, by decide⟩)⟩
    · iexact HSI

end Cert.KernelIdeal.Own

end
-- ==== Proof.LexRank.lean ====
/-
  Ranks in a lexicographic order: the stable sort of `n` positions by three keys puts at place `r` the position whose rank —
  the number of positions before it, equal keys ordered by position — is `r`.
-/
module

public import Idealize.ShloMosaic.Lib.SortFacts
public import Idealize.ShloMosaic.Lib.SortPrefix
public import Idealize.ShloMosaic.PureOps.Ideal
public import Mathlib.Data.Fintype.Card
public import Mathlib.Data.EReal.Basic

@[expose] public section

noncomputable section

namespace Cert.Own

open Idealize.ShloMosaic

/-- Three keys. -/
abbrev Key : Type := EReal × EReal × EReal

/-- The keys' lexicographic order. -/
def lexLt (p q : Key) : Prop := p.1 < q.1 ∨ (p.1 = q.1 ∧ (p.2.1 < q.2.1 ∨ (p.2.1 = q.2.1 ∧ p.2.2 < q.2.2)))

theorem lexLt_irrefl (p : Key) : ¬lexLt p p := by
  unfold lexLt
  rintro (h | ⟨-, h | ⟨-, h⟩⟩) <;> exact lt_irrefl _ h

theorem lexLt_trans {p q r : Key} (h : lexLt p q) (h' : lexLt q r) : lexLt p r := by
  unfold lexLt at *
  rcases h with h | ⟨e, h | ⟨e2, h⟩⟩ <;> rcases h' with h' | ⟨e', h' | ⟨e2', h'⟩⟩
  · exact .inl (h.trans h')
  · exact .inl (e' ▸ h)
  · exact .inl (e' ▸ h)
  · exact .inl (e ▸ h')
  · exact .inr ⟨e.trans e', .inl (h.trans h')⟩
  · exact .inr ⟨e.trans e', .inl (e2' ▸ h)⟩
  · exact .inl (e ▸ h')
  · exact .inr ⟨e.trans e', .inl (e2 ▸ h')⟩
  · exact .inr ⟨e.trans e', .inr ⟨e2.trans e2', h.trans h'⟩⟩

theorem lexLt_tri (p q : Key) : lexLt p q ∨ p = q ∨ lexLt q p := by
  unfold lexLt
  rcases lt_trichotomy p.1 q.1 with h | h | h
  · exact .inl (.inl h)
  · rcases lt_trichotomy p.2.1 q.2.1 with h2 | h2 | h2
    · exact .inl (.inr ⟨h, .inl h2⟩)
    · rcases lt_trichotomy p.2.2 q.2.2 with h3 | h3 | h3
      · exact .inl (.inr ⟨h, .inr ⟨h2, h3⟩⟩)
      · exact .inr (.inl (Prod.ext h (Prod.ext h2 h3)))
      · exact .inr (.inr (.inr ⟨h.symm, .inr ⟨h2.symm, h3⟩⟩))
    · exact .inr (.inr (.inr ⟨h.symm, .inl h2⟩))
  · exact .inr (.inr (.inl h))

variable {n : ℕ}

/-- Position `j` comes before position `i`: its keys are smaller, or the same and it stands before it. -/
def Before (key : Fin n → Key) (j i : Fin n) : Prop := lexLt (key j) (key i) ∨ (key j = key i ∧ j < i)

open Classical in
/-- The number of positions before `i`. -/
def rank (key : Fin n → Key) (i : Fin n) : ℕ := (Finset.univ.filter fun j => Before key j i).card

open Classical in
/-- The position the stable sort by the keys puts at `k`. -/
def sorted (key : Fin n → Key) (k : Fin n) : Fin n := sortedFrom (fun a b => decide (lexLt (key a) (key b))) k

theorem Before.irrefl (key : Fin n → Key) (i : Fin n) : ¬Before key i i := by
  rintro (h | ⟨-, h⟩)
  · exact lexLt_irrefl _ h
  · exact lt_irrefl _ h

theorem rank_lt (key : Fin n → Key) (i : Fin n) : rank key i < n := by
  classical
  have h : (Finset.univ.filter fun j => Before key j i) ⊂ (Finset.univ : Finset (Fin n)) :=
    Finset.ssubset_iff_subset_ne.mpr ⟨Finset.filter_subset _ _, fun e => by
      have := e.symm ▸ Finset.mem_univ i
      exact Before.irrefl key i (Finset.mem_filter.mp this).2⟩
  have := Finset.card_lt_card h
  rwa [Finset.card_univ, Fintype.card_fin] at this

/-- A stable sort compares an element only with later ones, so two relations that agree there sort alike. -/
theorem stableSort_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

open Classical in
/-- The positions' order with ties broken by position, as a decision. -/
def beforeB (key : Fin n → Key) (a b : Fin n) : Bool :=
  decide (lexLt (key a) (key b)) || (decide (key a = key b) && decide (a < b))

theorem beforeB_iff (key : Fin n → Key) (a b : Fin n) : beforeB key a b = true ↔ Before key a b := by
  simp [beforeB, Before]

theorem beforeB_total (key : Fin n → Key) : StrictTotalBefore (beforeB key) := by
  classical
  exact StrictTotalBefore.of_key_then_position (fun p q => decide (lexLt p q)) key (fun a => by simp [lexLt_irrefl])
    (fun a b c h h' => by simp only [decide_eq_true_eq] at *; exact lexLt_trans h h')
    (fun a b => by simpa only [decide_eq_true_eq] using lexLt_tri a b)

theorem sorted_eq (key : Fin n → Key) : sorted key = sortedFrom (beforeB key) := by
  classical
  have h : sortPositions n (fun a b => decide (lexLt (key a) (key b))) = sortPositions n (beforeB key) := by
    refine stableSort_later _ _ _ ?_
    refine (List.pairwise_lt_finRange n).imp fun {a b} hab => ?_
    simp [beforeB, not_lt.mpr hab.le]
  funext k
  unfold sorted sortedFrom
  rw [List.get_of_eq h]
  rfl

theorem sorted_mono (key : Fin n → Key) {a b : Fin n} (h : a < b) : Before key (sorted key a) (sorted key b) := by
  rw [← beforeB_iff, sorted_eq]
  have hp : (sortPositions n (beforeB key)).Pairwise fun a b => beforeB key b a = false :=
    (beforeB_total key).sorted_stableSort _
  have hne : sortedFrom (beforeB key) a ≠ sortedFrom (beforeB key) b := fun e => h.ne (sortedFrom_injective _ e)
  rcases (beforeB_total key).total _ _ hne with h' | h'
  · exact h'
  · have := List.pairwise_iff_get.mp hp (a.cast (length_sortPositions n _).symm) (b.cast (length_sortPositions n _).symm) h
    exact absurd (this.symm.trans h') (by simp)

theorem rank_sorted (key : Fin n → Key) (k : Fin n) : rank key (sorted key k) = k.val := by
  classical
  have hbij : Function.Bijective (sorted key) := by
    rw [sorted_eq]; exact ⟨sortedFrom_injective _, sortedFrom_surjective _⟩
  have e : (Finset.univ.filter fun j => Before key j (sorted key k)) = (Finset.univ.filter fun l : Fin n => l < k).image (sorted key) := by
    ext j
    simp only [Finset.mem_filter, Finset.mem_univ, true_and, Finset.mem_image]
    constructor
    · intro hj
      obtain ⟨l, rfl⟩ := hbij.2 j
      refine ⟨l, ?_, rfl⟩
      rcases lt_trichotomy l k with h | h | h
      · exact h
      · subst h; exact absurd hj (Before.irrefl key _)
      · have h' := sorted_mono key h
        rw [← beforeB_iff] at hj h'
        exact absurd ((beforeB_total key).asymm _ _ hj) (by simp [h'])
    · rintro ⟨l, hl, rfl⟩
      exact sorted_mono key hl
  unfold rank
  rw [e, Finset.card_image_of_injective _ hbij.1, show (Finset.univ.filter fun l : Fin n => l < k) = Finset.Iio k from by ext l; simp, Fin.card_Iio]

/-- Position `i` is the one the sort puts at `i`'s rank. -/
theorem sorted_rank (key : Fin n → Key) (i : Fin n) : sorted key ⟨rank key i, rank_lt key i⟩ = i := by
  have hs : Function.Surjective (sorted key) := by rw [sorted_eq]; exact sortedFrom_surjective _
  obtain ⟨k, rfl⟩ := hs i
  exact congrArg _ (Fin.ext (rank_sorted key k))

end Cert.Own

end
-- ==== Proof.SortRef.lean ====
/-
  The reference's three sorts: what they leave at each place is the position the stable lexicographic order puts there.
-/
module

public import proofs.«01_k».proof.Proof.LexRank
public import proofs.«01_k».proof.Proof.Gen.ReferenceIdeal.Run
public import Idealize.ShloMosaic.Lib.SortFacts
public import Idealize.ShloMosaic.Lib.Pipeline.ValueKit

@[expose] public section

set_option maxRecDepth 16384

noncomputable section

namespace Cert.ReferenceIdeal.Own

open Cert.ReferenceIdeal Cert.ReferenceIdeal.Gen Cert.ReferenceIdeal.Value Cert.Own Idealize.ShloMosaic Idealize.ShloMosaic.TcCoe Idealize.SL.Sem

/-- The keys a sorted row carries: its first three entries. -/
def rowOf (l : EReal × EReal × EReal × BitVec 32) : Key := (l.1, l.2.1, l.2.2.1)

theorem zero_bits : FloatOps.ofBits (F := Ideal) .f32 0x00000000#32 = (0 : EReal) := Ideal.ofBits_zero .f32

/-- The comparators' clean-up of a value changes nothing over the extended reals. -/
theorem canon (x : EReal) : Scalar.select (FloatOps.cmpf (F := Ideal) (φ := .f32) .une x x) (FloatOps.ofBits (F := Ideal) .f32 0x7FC00000#32)
    (Scalar.select (FloatOps.cmpf (F := Ideal) (φ := .f32) .oeq x (FloatOps.ofBits (F := Ideal) .f32 0x00000000#32)) (FloatOps.ofBits (F := Ideal) .f32 0x00000000#32) x) = x := by
  have h1 : FloatOps.cmpf (F := Ideal) (φ := .f32) .une x x = 0#1 := by
    show BitVec.ofBool (decide (x ≠ x)) = 0#1
    simp
  rw [h1]
  show Scalar.select (FloatOps.cmpf (F := Ideal) (φ := .f32) .oeq x (FloatOps.ofBits (F := Ideal) .f32 0x00000000#32)) (FloatOps.ofBits (F := Ideal) .f32 0x00000000#32) x = x
  rw [zero_bits]
  show Scalar.select (BitVec.ofBool (decide (x = 0))) (0 : EReal) x = x
  by_cases h : x = 0
  · subst h; simp [Scalar.select]
  · rw [decide_eq_false h]; rfl

theorem bits_decide (p q r s t : Prop) [Decidable p] [Decidable q] [Decidable r] [Decidable s] [Decidable t] [D : Decidable (p ∨ (q ∧ (r ∨ (s ∧ t))))] :
    (IntOp.ori (BitVec.ofBool (decide p)) (IntOp.andi (BitVec.ofBool (decide q))
      (IntOp.ori (BitVec.ofBool (decide r)) (IntOp.andi (BitVec.ofBool (decide s)) (BitVec.ofBool (decide t))))) == 1#1) = @decide (p ∨ (q ∧ (r ∨ (s ∧ t)))) D := by
  by_cases h1 : p <;> by_cases h2 : q <;> by_cases h3 : r <;> by_cases h4 : s <;> by_cases h5 : t <;> simp [h1, h2, h3, h4, h5, IntOp.ori, IntOp.andi]

open Classical in
theorem lex_bits (a b c d e f : EReal) :
    (IntOp.ori (FloatOps.cmpfTotal (F := Ideal) (φ := .f32) .lt a d) (IntOp.andi (FloatOps.cmpfTotal (F := Ideal) (φ := .f32) .eq a d)
      (IntOp.ori (FloatOps.cmpfTotal (F := Ideal) (φ := .f32) .lt b e) (IntOp.andi (FloatOps.cmpfTotal (F := Ideal) (φ := .f32) .eq b e)
        (FloatOps.cmpfTotal (F := Ideal) (φ := .f32) .lt c f)))) == 1#1) = decide (lexLt (a, b, c) (d, e, f)) := by
  show (IntOp.ori (BitVec.ofBool (decide (a < d))) (IntOp.andi (BitVec.ofBool (decide (a = d)))
    (IntOp.ori (BitVec.ofBool (decide (b < e))) (IntOp.andi (BitVec.ofBool (decide (b = e))) (BitVec.ofBool (decide (c < f)))))) == 1#1) = _
  exact bits_decide (D := propDecidable _) (a < d) (a = d) (b < e) (b = e) (c < f)

open Classical in
theorem cmp1_lex (l r : EReal × EReal × EReal × BitVec 32) :
    (comparator_f32_f32_f32_i32_d1 (F := Ideal) l r == 1#1) = decide (lexLt (rowOf l) (rowOf r)) := by
  unfold comparator_f32_f32_f32_i32_d1
  dsimp only
  rw [canon, canon, canon, canon, canon, canon]
  exact lex_bits _ _ _ _ _ _

open Classical in
theorem cmp2_lex (l r : EReal × EReal × EReal × BitVec 32) :
    (comparator_f32_f32_f32_i32_d2 (F := Ideal) l r == 1#1) = decide (lexLt (rowOf l) (rowOf r)) := by
  unfold comparator_f32_f32_f32_i32_d2
  dsimp only
  rw [canon, canon, canon, canon, canon, canon]
  exact lex_bits _ _ _ _ _ _

open Classical in
/-- The fourth operand of a four-operand sort by a comparator that is the lexicographic order on the first three. -/
theorem sort4_at (s : Shape) (a : Fin s.rank) (cmp : EReal × EReal × EReal × BitVec 32 → EReal × EReal × EReal × BitVec 32 → BitVec 1)
    (hc : ∀ l r, (cmp l r == 1#1) = decide (lexLt (rowOf l) (rowOf r))) (x y z : s.Idx → EReal) (w : s.Idx → BitVec 32) (j : s.Idx) :
    (Host.sort4 s a.val cmp x y z w).2.2.2 j = w (j.along a (sorted (fun k => (x (j.along a k), y (j.along a k), z (j.along a k))) (j a))) := by
  rw [Host.sort4_eq_sortBy]
  show Host.sortBy s a.val cmp (fun j => (x j, y j, z j, w j)) w j = _
  unfold Host.sortBy
  rw [dif_pos a.isLt]
  simp only [hc]
  rfl

/-- A vertex's keys: its last coordinate first. -/
def vertexKey (x : Vec Ideal S16x65536x3 .f32) (b : Fin 16) (i : Fin 65536) : Key := (x (ix3 b i 2), x (ix3 b i 1), x (ix3 b i 0))

/-- A centroid's keys: its last coordinate first. -/
def faceKey (x : Vec Ideal S16x131072x3 .f32) (b : Fin 16) (i : Fin 131072) : Key := (x (ix3 b i 2), x (ix3 b i 1), x (ix3 b i 0))

/-- The keys of a face's corner: its last coordinate first. -/
def vertKey (x : Vec Ideal S16x131072x3x3 .f32) (b : Fin 16) (f : Fin 131072) (k : Fin 3) : Key := (x (ix4 b f k 2), x (ix4 b f k 1), x (ix4 b f k 0))

theorem sort_vertices (x y z : Vec Ideal S16x65536 .f32) (w : IVec S16x65536 32) (b : Fin 16) (k : Fin 65536) :
    (Host.sort4 S16x65536 1 (comparator_f32_f32_f32_i32_d1 (F := Ideal)) x y z w).2.2.2 (ix2 b k)
      = w (ix2 b (sorted (fun l => (x (ix2 b l), y (ix2 b l), z (ix2 b l))) k)) := by
  have e : ∀ l : Fin 65536, Shape.Idx.along (s := S16x65536) (ix2 b k) (1 : Fin 2) l = ix2 b l := fun l => by funext a; fin_cases a <;> rfl
  refine (sort4_at S16x65536 1 _ cmp1_lex x y z w (ix2 b k)).trans ?_
  rw [show (fun l => (x (Shape.Idx.along (ix2 b k) (1 : Fin 2) l), y (Shape.Idx.along (ix2 b k) (1 : Fin 2) l), z (Shape.Idx.along (ix2 b k) (1 : Fin 2) l)))
    = fun l => (x (ix2 b l), y (ix2 b l), z (ix2 b l)) from funext fun l => by rw [e l]]
  exact congrArg w (e _)

theorem sort_faces (x y z : Vec Ideal S16x131072 .f32) (w : IVec S16x131072 32) (b : Fin 16) (k : Fin 131072) :
    (Host.sort4 S16x131072 1 (comparator_f32_f32_f32_i32_d1 (F := Ideal)) x y z w).2.2.2 (ix2 b k)
      = w (ix2 b (sorted (fun l => (x (ix2 b l), y (ix2 b l), z (ix2 b l))) k)) := by
  have e : ∀ l : Fin 131072, Shape.Idx.along (s := S16x131072) (ix2 b k) (1 : Fin 2) l = ix2 b l := fun l => by funext a; fin_cases a <;> rfl
  refine (sort4_at S16x131072 1 _ cmp1_lex x y z w (ix2 b k)).trans ?_
  rw [show (fun l => (x (Shape.Idx.along (ix2 b k) (1 : Fin 2) l), y (Shape.Idx.along (ix2 b k) (1 : Fin 2) l), z (Shape.Idx.along (ix2 b k) (1 : Fin 2) l)))
    = fun l => (x (ix2 b l), y (ix2 b l), z (ix2 b l)) from funext fun l => by rw [e l]]
  exact congrArg w (e _)

theorem sort_corners (x y z : Vec Ideal S16x131072x3 .f32) (w : IVec S16x131072x3 32) (b : Fin 16) (f : Fin 131072) (k : Fin 3) :
    (Host.sort4 S16x131072x3 2 (comparator_f32_f32_f32_i32_d2 (F := Ideal)) x y z w).2.2.2 (ix3 b f k)
      = w (ix3 b f (sorted (fun l => (x (ix3 b f l), y (ix3 b f l), z (ix3 b f l))) k)) := by
  have e : ∀ l : Fin 3, Shape.Idx.along (s := S16x131072x3) (ix3 b f k) (2 : Fin 3) l = ix3 b f l := fun l => by funext a; fin_cases a <;> rfl
  refine (sort4_at S16x131072x3 2 _ cmp2_lex x y z w (ix3 b f k)).trans ?_
  rw [show (fun l => (x (Shape.Idx.along (ix3 b f k) (2 : Fin 3) l), y (Shape.Idx.along (ix3 b f k) (2 : Fin 3) l), z (Shape.Idx.along (ix3 b f k) (2 : Fin 3) l)))
    = fun l => (x (ix3 b f l), y (ix3 b f l), z (ix3 b f l)) from funext fun l => by rw [e l]]
  exact congrArg w (e _)

variable (V0 : Valuation τ sig (Elt Ideal))

theorem iota0 (b : Fin 16) (l : Fin 65536) : (res_main_call0_v1 V0 : IVec S16x65536 32) (ix2 b l) = BitVec.ofNat 32 l.val := by
  unfold res_main_call0_v1
  pointwise []

theorem iota1 (b : Fin 16) (f : Fin 131072) (l : Fin 3) : (res_main_call1_v1 V0 : IVec S16x131072x3 32) (ix3 b f l) = BitVec.ofNat 32 l.val := by
  unfold res_main_call1_v1
  pointwise []

theorem iota3 (b : Fin 16) (l : Fin 131072) : (res_main_call3_v1 V0 : IVec S16x131072 32) (ix2 b l) = BitVec.ofNat 32 l.val := by
  unfold res_main_call3_v1
  pointwise []

/-- The order of the vertices: at each place the vertex the sort puts there. -/
theorem v18_at (b : Fin 16) (k : Fin 65536) :
    (res_main_v18 V0 : IVec S16x65536 32) (ix2 b k) = BitVec.ofNat 32 (sorted (vertexKey (res_main_v11 V0) b) k).val := by
  unfold res_main_v18
  refine (sort_vertices _ _ _ _ b k).trans ((iota0 V0 b _).trans ?_)
  refine congrArg (fun q => BitVec.ofNat 32 (sorted q k).val) (funext fun l => ?_)
  unfold vertexKey res_main_v17 res_main_v15 res_main_v13
  refine congrArg₂ Prod.mk ?_ (congrArg₂ Prod.mk ?_ ?_) <;> pointwise []

/-- The order of a face's corners: at each place the corner the sort puts there. -/
theorem v39_at (b : Fin 16) (f : Fin 131072) (k : Fin 3) :
    (res_main_v39 V0 : IVec S16x131072x3 32) (ix3 b f k) = BitVec.ofNat 32 (sorted (vertKey (res_main_v32 V0) b f) k).val := by
  unfold res_main_v39
  refine (sort_corners _ _ _ _ b f k).trans ((iota1 V0 b f _).trans ?_)
  refine congrArg (fun q => BitVec.ofNat 32 (sorted q k).val) (funext fun l => ?_)
  unfold vertKey res_main_v38 res_main_v36 res_main_v34
  refine congrArg₂ Prod.mk ?_ (congrArg₂ Prod.mk ?_ ?_) <;> pointwise []

/-- The order of the faces: at each place the face the sort puts there. -/
theorem v50_at (b : Fin 16) (k : Fin 131072) :
    (res_main_v50 V0 : IVec S16x131072 32) (ix2 b k) = BitVec.ofNat 32 (sorted (faceKey (res_main_v43 V0) b) k).val := by
  unfold res_main_v50
  refine (sort_faces _ _ _ _ b k).trans ((iota3 V0 b _).trans ?_)
  refine congrArg (fun q => BitVec.ofNat 32 (sorted q k).val) (funext fun l => ?_)
  unfold faceKey res_main_v49 res_main_v47 res_main_v45
  refine congrArg₂ Prod.mk ?_ (congrArg₂ Prod.mk ?_ ?_) <;> pointwise []

end Cert.ReferenceIdeal.Own

end
-- ==== Proof.Indexing.lean ====
/-
  The programs' gathers and scatters read at an index, where the index words hold positions in range.
-/
module

public import proofs.«01_k».proof.Proof.LexRank
public import proofs.«01_k».proof.Proof.SortRef
public import proofs.«01_k».proof.Proof.Gen.KernelIdeal
public import Idealize.ShloMosaic.Lib.Routing.OpsSet
public import Idealize.ShloMosaic.Lib.Routing.OpsPair
public import Idealize.ShloMosaic.Lib.StableHlo.Predicate
public import Idealize.ShloMosaic.Lib.Pipeline.ValueKit

@[expose] public section

set_option maxRecDepth 16384

noncomputable section

namespace Cert.Own

open Cert.ReferenceIdeal.Gen Cert.KernelIdeal.Gen Idealize.ShloMosaic Idealize.ShloMosaic.TcCoe Idealize.SL.Sem
open Idealize.ShloMosaic.StableHlo.Predicate (toInt_ofNat_small)

/-- A start word that holds a position in range is that position, clamped or not. -/
theorem start_word (w : BitVec 32) (v N : ℕ) (h : w = BitVec.ofNat 32 v) (hv : v < N) (hN : N ≤ 2 ^ 31) : min w.toInt.toNat (N - 1) = v := by
  rw [h, toInt_ofNat_small v (by omega)]
  omega

/-- The position whose rank is `k` is the one the sort puts at `k`. -/
theorem sorted_of_rank {n : ℕ} (key : Fin n → Key) (i k : Fin n) (h : rank key i = k.val) : sorted key k = i := by
  have r := sorted_rank key i
  rwa [show (⟨rank key i, rank_lt key i⟩ : Fin n) = k from Fin.ext h] at r

/-- Rows of the vertices taken by one index word each. -/
theorem gather_vertices {α : Type} (x : Cert.ReferenceIdeal.S16x65536x3.Idx → α) (idx : IVec Cert.ReferenceIdeal.S16x65536x1 32) (b : Fin 16) (k : Fin 65536) (d : Fin 3)
    (v : Fin 65536) (h : idx (ix3 b k 0) = BitVec.ofNat 32 v.val) :
    Host.gather Cert.ReferenceIdeal.gather_S16x65536x3_S16x65536x1_S16x65536x3_2_1_0_0_1_2_113 x idx (ix3 b k d) = x (ix3 b v d) := by
  unfold Host.gather
  refine congrArg x (funext fun a => Fin.ext ?_)
  have hs : Cert.ReferenceIdeal.gather_S16x65536x3_S16x65536x1_S16x65536x3_2_1_0_0_1_2_113.siIdx (ix3 b k d) ⟨0, by decide⟩ = ix3 b k 0 := by
    funext q; fin_cases q <;> rfl
  match a with
  | ⟨0, _⟩ => exact (Nat.zero_add _).trans rfl
  | ⟨1, _⟩ =>
    show min (idx (Cert.ReferenceIdeal.gather_S16x65536x3_S16x65536x1_S16x65536x3_2_1_0_0_1_2_113.siIdx (ix3 b k d) ⟨0, by decide⟩)).toInt.toNat (65536 - 1) + 0 + 0 = v.val
    rw [hs]
    exact start_word _ _ 65536 h v.isLt (by decide)
  | ⟨2, _⟩ => exact (Nat.zero_add _).trans rfl

/-- Rows of the vertices taken by a face's three index words. -/
theorem gather_corners {α : Type} (x : Cert.ReferenceIdeal.S16x65536x3.Idx → α) (idx : IVec Cert.ReferenceIdeal.S16x131072x3x1 32) (b : Fin 16) (f : Fin 131072) (j d : Fin 3)
    (v : Fin 65536) (h : idx (ix4 b f j 0) = BitVec.ofNat 32 v.val) :
    Host.gather Cert.ReferenceIdeal.gather_S16x65536x3_S16x131072x3x1_S16x131072x3x3_3_1_0_0_1_3_113 x idx (ix4 b f j d) = x (ix3 b v d) := by
  unfold Host.gather
  refine congrArg x (funext fun a => Fin.ext ?_)
  have hs : Cert.ReferenceIdeal.gather_S16x65536x3_S16x131072x3x1_S16x131072x3x3_3_1_0_0_1_3_113.siIdx (ix4 b f j d) ⟨0, by decide⟩ = ix4 b f j 0 := by
    funext q; fin_cases q <;> rfl
  match a with
  | ⟨0, _⟩ => exact (Nat.zero_add _).trans rfl
  | ⟨1, _⟩ =>
    show min (idx (Cert.ReferenceIdeal.gather_S16x65536x3_S16x131072x3x1_S16x131072x3x3_3_1_0_0_1_3_113.siIdx (ix4 b f j d) ⟨0, by decide⟩)).toInt.toNat (65536 - 1) + 0 + 0 = v.val
    rw [hs]
    exact start_word _ _ 65536 h v.isLt (by decide)
  | ⟨2, _⟩ => exact (Nat.zero_add _).trans rfl

/-- A face's own entries taken in an order of the corners. -/
theorem gather_along {α : Type} (x : Cert.ReferenceIdeal.S16x131072x3.Idx → α) (idx : IVec Cert.ReferenceIdeal.S16x131072x3x1 32) (b : Fin 16) (f : Fin 131072) (j : Fin 3)
    (v : Fin 3) (h : idx (ix4 b f j 0) = BitVec.ofNat 32 v.val) :
    Host.gather Cert.ReferenceIdeal.gather_S16x131072x3_S16x131072x3x1_S16x131072x3_n_2_01_01_2_3_111 x idx (ix3 b f j) = x (ix3 b f v) := by
  unfold Host.gather
  refine congrArg x (funext fun a => Fin.ext ?_)
  have hs : Cert.ReferenceIdeal.gather_S16x131072x3_S16x131072x3x1_S16x131072x3_n_2_01_01_2_3_111.siIdx (ix3 b f j) ⟨0, by decide⟩ = ix4 b f j 0 := by
    funext q; fin_cases q <;> rfl
  match a with
  | ⟨0, _⟩ => exact (Nat.zero_add _).trans rfl
  | ⟨1, _⟩ => exact (Nat.zero_add _).trans rfl
  | ⟨2, _⟩ =>
    show min (idx (Cert.ReferenceIdeal.gather_S16x131072x3_S16x131072x3x1_S16x131072x3_n_2_01_01_2_3_111.siIdx (ix3 b f j) ⟨0, by decide⟩)).toInt.toNat (3 - 1) + 0 + 0 = v.val
    rw [hs]
    exact start_word _ _ 3 h v.isLt (by decide)

/-- Rows of the faces taken by one index word each. -/
theorem gather_faces {α : Type} (x : Cert.ReferenceIdeal.S16x131072x3.Idx → α) (idx : IVec Cert.ReferenceIdeal.S16x131072x1 32) (b : Fin 16) (k : Fin 131072) (d : Fin 3)
    (v : Fin 131072) (h : idx (ix3 b k 0) = BitVec.ofNat 32 v.val) :
    Host.gather Cert.ReferenceIdeal.gather_S16x131072x3_S16x131072x1_S16x131072x3_2_1_0_0_1_2_113 x idx (ix3 b k d) = x (ix3 b v d) := by
  unfold Host.gather
  refine congrArg x (funext fun a => Fin.ext ?_)
  have hs : Cert.ReferenceIdeal.gather_S16x131072x3_S16x131072x1_S16x131072x3_2_1_0_0_1_2_113.siIdx (ix3 b k d) ⟨0, by decide⟩ = ix3 b k 0 := by
    funext q; fin_cases q <;> rfl
  match a with
  | ⟨0, _⟩ => exact (Nat.zero_add _).trans rfl
  | ⟨1, _⟩ =>
    show min (idx (Cert.ReferenceIdeal.gather_S16x131072x3_S16x131072x1_S16x131072x3_2_1_0_0_1_2_113.siIdx (ix3 b k d) ⟨0, by decide⟩)).toInt.toNat (131072 - 1) + 0 + 0 = v.val
    rw [hs]
    exact start_word _ _ 131072 h v.isLt (by decide)
  | ⟨2, _⟩ => exact (Nat.zero_add _).trans rfl

/-- The vertices scattered to their ranks, batch by batch, are the vertices in sorted order. -/
theorem scatter_vertices {α : Type} (key : Fin 16 → Fin 65536 → Key) (x0 upd : Cert.KernelIdeal.S16x65536x3.Idx → α) (idx : IVec Cert.KernelIdeal.S16x65536x2 32)
    (h0 : ∀ b i, idx (ix3 b i 0) = BitVec.ofNat 32 b.val) (h1 : ∀ b i, idx (ix3 b i 1) = BitVec.ofNat 32 (rank (key b) i)) (b : Fin 16) (k : Fin 65536) (d : Fin 3) :
    Host.scatter Cert.KernelIdeal.scatter_S16x65536x3_S16x65536x2_S16x65536x3_2_01_01_2 (fun _ b => b) x0 idx upd (ix3 b k d) = upd (ix3 b (sorted (key b) k) d) := by
  have hl : ∀ (y : Cert.KernelIdeal.S16x65536x3.Idx), Cert.KernelIdeal.scatter_S16x65536x3_S16x65536x2_S16x65536x3_2_01_01_2.resultIdx? y idx = some (ix3 b k d)
      ↔ (y 0).val = b.val ∧ rank (key (y 0)) (y 1) = k.val ∧ (y 2).val = d.val := fun y => by
    have hs0 : Cert.KernelIdeal.scatter_S16x65536x3_S16x65536x2_S16x65536x3_2_01_01_2.siIdx y ⟨0, by decide⟩ = ix3 (y 0) (y 1) 0 := by funext q; fin_cases q <;> rfl
    have hs1 : Cert.KernelIdeal.scatter_S16x65536x3_S16x65536x2_S16x65536x3_2_01_01_2.siIdx y ⟨1, by decide⟩ = ix3 (y 0) (y 1) 1 := by funext q; fin_cases q <;> rfl
    have e0 : Cert.KernelIdeal.scatter_S16x65536x3_S16x65536x2_S16x65536x3_2_01_01_2.start y idx 0 = ((y 0).val : ℤ) := by
      show (idx (Cert.KernelIdeal.scatter_S16x65536x3_S16x65536x2_S16x65536x3_2_01_01_2.siIdx y ⟨0, by decide⟩)).toInt = _
      have hy : (y 0).val < 16 := (y 0).isLt
      rw [hs0]
      exact (congrArg BitVec.toInt (h0 (y 0) (y 1))).trans (toInt_ofNat_small _ (by omega))
    have e1 : Cert.KernelIdeal.scatter_S16x65536x3_S16x65536x2_S16x65536x3_2_01_01_2.start y idx 1 = (rank (key (y 0)) (y 1) : ℤ) := by
      show (idx (Cert.KernelIdeal.scatter_S16x65536x3_S16x65536x2_S16x65536x3_2_01_01_2.siIdx y ⟨1, by decide⟩)).toInt = _
      have hy := rank_lt (key (y 0)) (y 1)
      rw [hs1]
      exact (congrArg BitVec.toInt (h1 (y 0) (y 1))).trans (toInt_ofNat_small _ (by omega))
    rw [Routing.resultIdx?_eq_some]
    constructor
    · intro h
      have a0 := h 0; have a1 := h 1; have a2 := h 2
      rw [e0] at a0
      rw [e1] at a1
      have a0' : ((y 0).val : ℤ) + ((0 : ℕ) : ℤ) = (b.val : ℤ) := a0
      have a1' : (rank (key (y 0)) (y 1) : ℤ) + ((0 : ℕ) : ℤ) = (k.val : ℤ) := a1
      have a2' : (0 : ℤ) + ((y 2).val : ℤ) = (d.val : ℤ) := a2
      exact ⟨by omega, by omega, by omega⟩
    · rintro ⟨c0, c1, c2⟩ a
      match a with
      | ⟨0, _⟩ =>
        refine (congrArg (· + _) e0).trans ?_
        show ((y 0).val : ℤ) + ((0 : ℕ) : ℤ) = (b.val : ℤ)
        omega
      | ⟨1, _⟩ =>
        refine (congrArg (· + _) e1).trans ?_
        show (rank (key (y 0)) (y 1) : ℤ) + ((0 : ℕ) : ℤ) = (k.val : ℤ)
        omega
      | ⟨2, _⟩ =>
        show (0 : ℤ) + ((y 2).val : ℤ) = (d.val : ℤ)
        omega
  obtain ⟨v, hv⟩ : ∃ v, v = sorted (key b) k := ⟨_, rfl⟩
  have hr : rank (key b) v = k.val := by rw [hv]; exact rank_sorted (key b) k
  rw [← hv]
  have hk := (hl (ix3 b v d)).mpr ⟨rfl, hr, rfl⟩
  refine Routing.scatter_set_hit _ x0 idx upd _ _ (fun y hy => ?_) (ix3 b v d) hk
  obtain ⟨c0, c1, c2⟩ := (hl y).mp hy
  refine congrArg upd (funext fun a => ?_)
  have g0 : y 0 = b := Fin.ext c0
  match a with
  | ⟨0, _⟩ => exact g0
  | ⟨1, _⟩ =>
    rw [g0] at c1
    exact (sorted_of_rank (key b) (y 1) k c1).symm.trans hv.symm
  | ⟨2, _⟩ => exact Fin.ext c2

/-- The faces scattered to their ranks, batch by batch, are the faces in sorted order. -/
theorem scatter_faces {α : Type} (key : Fin 16 → Fin 131072 → Key) (x0 upd : Cert.KernelIdeal.S16x131072x9.Idx → α) (idx : IVec Cert.KernelIdeal.S16x131072x2 32)
    (h0 : ∀ b i, idx (ix3 b i 0) = BitVec.ofNat 32 b.val) (h1 : ∀ b i, idx (ix3 b i 1) = BitVec.ofNat 32 (rank (key b) i)) (b : Fin 16) (k : Fin 131072) (d : Fin 9) :
    Host.scatter Cert.KernelIdeal.scatter_S16x131072x9_S16x131072x2_S16x131072x9_2_01_01_2 (fun _ b => b) x0 idx upd (ix3 b k d) = upd (ix3 b (sorted (key b) k) d) := by
  have hl : ∀ (y : Cert.KernelIdeal.S16x131072x9.Idx), Cert.KernelIdeal.scatter_S16x131072x9_S16x131072x2_S16x131072x9_2_01_01_2.resultIdx? y idx = some (ix3 b k d)
      ↔ (y 0).val = b.val ∧ rank (key (y 0)) (y 1) = k.val ∧ (y 2).val = d.val := fun y => by
    have hs0 : Cert.KernelIdeal.scatter_S16x131072x9_S16x131072x2_S16x131072x9_2_01_01_2.siIdx y ⟨0, by decide⟩ = ix3 (y 0) (y 1) 0 := by funext q; fin_cases q <;> rfl
    have hs1 : Cert.KernelIdeal.scatter_S16x131072x9_S16x131072x2_S16x131072x9_2_01_01_2.siIdx y ⟨1, by decide⟩ = ix3 (y 0) (y 1) 1 := by funext q; fin_cases q <;> rfl
    have e0 : Cert.KernelIdeal.scatter_S16x131072x9_S16x131072x2_S16x131072x9_2_01_01_2.start y idx 0 = ((y 0).val : ℤ) := by
      show (idx (Cert.KernelIdeal.scatter_S16x131072x9_S16x131072x2_S16x131072x9_2_01_01_2.siIdx y ⟨0, by decide⟩)).toInt = _
      have hy : (y 0).val < 16 := (y 0).isLt
      rw [hs0]
      exact (congrArg BitVec.toInt (h0 (y 0) (y 1))).trans (toInt_ofNat_small _ (by omega))
    have e1 : Cert.KernelIdeal.scatter_S16x131072x9_S16x131072x2_S16x131072x9_2_01_01_2.start y idx 1 = (rank (key (y 0)) (y 1) : ℤ) := by
      show (idx (Cert.KernelIdeal.scatter_S16x131072x9_S16x131072x2_S16x131072x9_2_01_01_2.siIdx y ⟨1, by decide⟩)).toInt = _
      have hy := rank_lt (key (y 0)) (y 1)
      rw [hs1]
      exact (congrArg BitVec.toInt (h1 (y 0) (y 1))).trans (toInt_ofNat_small _ (by omega))
    rw [Routing.resultIdx?_eq_some]
    constructor
    · intro h
      have a0 := h 0; have a1 := h 1; have a2 := h 2
      rw [e0] at a0
      rw [e1] at a1
      have a0' : ((y 0).val : ℤ) + ((0 : ℕ) : ℤ) = (b.val : ℤ) := a0
      have a1' : (rank (key (y 0)) (y 1) : ℤ) + ((0 : ℕ) : ℤ) = (k.val : ℤ) := a1
      have a2' : (0 : ℤ) + ((y 2).val : ℤ) = (d.val : ℤ) := a2
      exact ⟨by omega, by omega, by omega⟩
    · rintro ⟨c0, c1, c2⟩ a
      match a with
      | ⟨0, _⟩ =>
        refine (congrArg (· + _) e0).trans ?_
        show ((y 0).val : ℤ) + ((0 : ℕ) : ℤ) = (b.val : ℤ)
        omega
      | ⟨1, _⟩ =>
        refine (congrArg (· + _) e1).trans ?_
        show (rank (key (y 0)) (y 1) : ℤ) + ((0 : ℕ) : ℤ) = (k.val : ℤ)
        omega
      | ⟨2, _⟩ =>
        show (0 : ℤ) + ((y 2).val : ℤ) = (d.val : ℤ)
        omega
  obtain ⟨v, hv⟩ : ∃ v, v = sorted (key b) k := ⟨_, rfl⟩
  have hr : rank (key b) v = k.val := by rw [hv]; exact rank_sorted (key b) k
  rw [← hv]
  have hk := (hl (ix3 b v d)).mpr ⟨rfl, hr, rfl⟩
  refine Routing.scatter_set_hit _ x0 idx upd _ _ (fun y hy => ?_) (ix3 b v d) hk
  obtain ⟨c0, c1, c2⟩ := (hl y).mp hy
  refine congrArg upd (funext fun a => ?_)
  have g0 : y 0 = b := Fin.ext c0
  match a with
  | ⟨0, _⟩ => exact g0
  | ⟨1, _⟩ =>
    rw [g0] at c1
    exact (sorted_of_rank (key b) (y 1) k c1).symm.trans hv.symm
  | ⟨2, _⟩ => exact Fin.ext c2

end Cert.Own

end
-- ==== Proof.RankTile.lean ====
/-
  One tile of the rank kernel: the count, per row, of the ones of a 2048 by 2048 matrix of bits, and what one grid
  point adds to a row's entry.
-/
module

public import proofs.«01_k».proof.Proof.Rank0
public import proofs.«01_k».proof.Proof.Rank2
public import proofs.«01_k».proof.Proof.LexRank
public import Idealize.ShloMosaic.Lib.IndicatorCount
public import Idealize.ShloMosaic.Lib.Pipeline.ValueKit

@[expose] public section

set_option maxRecDepth 16384

noncomputable section

namespace Cert.KernelIdeal.Own

open Cert.KernelIdeal Cert.KernelIdeal.Gen Cert.Own Idealize.ShloMosaic Idealize.ShloMosaic.TcCoe Idealize.SL.Sem

theorem ofBool_one (b : Bool) : BitVec.ofBool b = 1#1 ↔ b = true := by cases b <;> decide
theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide

/-- What is below one value of a family is below its greatest. -/
theorem lt_fold_univ {α : Type} [Fintype α] (f : α → EReal) (b c : EReal) (x : α) (h : c < f x) : c < Finset.univ.fold max b f :=
  (Finset.lt_fold_max _).mpr (.inr ⟨x, Finset.mem_univ x, h⟩)

/-- The signed comparison of two places below the block size times a small block number. -/
theorem place_lt (a b : ℕ) (ha : a < 64) (hb : b < 64) (l r : Fin 2048) :
    IntOp.cmpi CmpIPredicate.slt (IntOp.addi (Scalar.muli (BitVec.ofNat 32 a) 2048#32) (BitVec.ofNat 32 l.val))
      (IntOp.addi (Scalar.muli (BitVec.ofNat 32 b) 2048#32) (BitVec.ofNat 32 r.val)) = 1#1 ↔ a * 2048 + l.val < b * 2048 + r.val := by
  have key : ∀ (a : ℕ) (ha : a < 64) (l : Fin 2048), (IntOp.addi (Scalar.muli (BitVec.ofNat 32 a) 2048#32) (BitVec.ofNat 32 l.val)).toInt = (a * 2048 + l.val : ℕ) := by
    intro a ha l
    have e : IntOp.addi (Scalar.muli (BitVec.ofNat 32 a) 2048#32) (BitVec.ofNat 32 l.val) = BitVec.ofNat 32 (a * 2048 + l.val) := by
      show BitVec.ofNat 32 a * BitVec.ofNat 32 2048 + BitVec.ofNat 32 l.val = _
      rw [← BitVec.ofNat_mul, ← BitVec.ofNat_add]
    have hl := l.isLt
    rw [e, BitVec.toInt_eq_toNat_of_lt (by rw [BitVec.toNat_ofNat]; omega), BitVec.toNat_ofNat]
    rw [Nat.mod_eq_of_lt (by omega)]
  show BitVec.ofBool (BitVec.slt _ _) = 1#1 ↔ _
  rw [ofBool_one, BitVec.slt_iff_toInt_lt, key a ha, key b hb]
  omega

open Classical in
/-- The strictly smaller first keys: what every point adds to a row. -/
theorem pay11_apply (x0 : Vec Ideal S1x2048x1 .f32) (x3 : Vec Ideal S1x1x2048 .f32) (acc : Vec Ideal S1x2048x1 .i32) (r : Fin 2048) :
    k0_pay11 x0 x3 acc (ix3 0 r 0)
      = acc (ix3 0 r 0) + BitVec.ofNat 32 (Finset.univ.filter fun l : Fin 2048 => x3 (ix3 0 0 l) < x0 (ix3 0 r 0)).card := by
  pointwise [k0_pay11, k0_pay7, k0_pay4]
  rw [IndicatorCount.fold_addi_setWidth_eq_card]
  simp only [ofBool_one, decide_eq_true_eq]
  exact congrArg (fun n => acc (ix3 0 r 0) + BitVec.ofNat 32 n) (by congr; funext x; exact propext decide_eq_true_iff)

open Classical in
/-- The columns whose first key equals the row's and which come before it by the other keys and the place. -/
theorem pay2_apply (a1 a2 : ℕ) (h1 : a1 < 64) (h2 : a2 < 64) (x0 x1 x2 : Vec Ideal S1x2048x1 .f32) (x3 x4 x5 : Vec Ideal S1x1x2048 .f32) (acc : Vec Ideal S1x2048x1 .i32) (r : Fin 2048) :
    k0_pay2 (BitVec.ofNat 32 a1) (BitVec.ofNat 32 a2) (k0_pay5 x1) (k0_pay6 x2) (k0_pay8 x4) (k0_pay9 x5) (k0_pay10 x0 x3) acc (ix3 0 r 0)
      = acc (ix3 0 r 0) + BitVec.ofNat 32 (Finset.univ.filter fun l : Fin 2048 => x3 (ix3 0 0 l) = x0 (ix3 0 r 0) ∧
          (x4 (ix3 0 0 l) < x1 (ix3 0 r 0) ∨ (x4 (ix3 0 0 l) = x1 (ix3 0 r 0) ∧
            (x5 (ix3 0 0 l) < x2 (ix3 0 r 0) ∨ (x5 (ix3 0 0 l) = x2 (ix3 0 r 0) ∧
              a2 * 2048 + l.val < a1 * 2048 + r.val))))).card := by
  pointwise [k0_pay2, k0_pay5, k0_pay6, k0_pay7, k0_pay8, k0_pay9, k0_pay4, k0_pay10]
  rw [IndicatorCount.fold_addi_setWidth_eq_card]
  simp only [ofBool_one, andi_one, ori_one, place_lt _ _ h2 h1, decide_eq_true_eq]
  exact congrArg (fun n => acc (ix3 0 r 0) + BitVec.ofNat 32 n) (by
    congr; funext x
    exact propext (and_congr decide_eq_true_iff (or_congr decide_eq_true_iff (and_congr decide_eq_true_iff (or_congr decide_eq_true_iff (and_congr decide_eq_true_iff Iff.rfl))))))

open Classical in
/-- No equal first keys where the test finds none. -/
theorem ties0_apply (x0 : Vec Ideal S1x2048x1 .f32) (x3 : Vec Ideal S1x1x2048 .f32) (h : ¬ties0 x0 x3) (r l : Fin 2048) : x3 (ix3 0 0 l) ≠ x0 (ix3 0 r 0) := by
  intro e
  apply h
  unfold ties0
  pointwise [k0_pay1, k0_pay10, k0_pay7, k0_pay4]
  rw [decide_eq_true]
  · decide
  · refine lt_fold_univ _ _ _ (r, l) ?_
    dsimp only
    rw [if_pos e]
    exact one_pos

/-- The keys of a row of the block. -/
def rowKey (x0 x1 x2 : Vec Ideal S1x2048x1 .f32) (r : Fin 2048) : Key := (x0 (ix3 0 r 0), x1 (ix3 0 r 0), x2 (ix3 0 r 0))
/-- The keys of a column of the block. -/
def colKey (x3 x4 x5 : Vec Ideal S1x1x2048 .f32) (l : Fin 2048) : Key := (x3 (ix3 0 0 l), x4 (ix3 0 0 l), x5 (ix3 0 0 l))

open Classical in
/-- A tile's columns that come before row `r`: the count, the rows starting at place `a1 * 2048` and the columns at `a2 * 2048`. -/
def tileCount (a1 a2 : ℕ) (kr : Key) (kc : Fin 2048 → Key) (r : Fin 2048) : ℕ :=
  (Finset.univ.filter fun l : Fin 2048 => lexLt (kc l) kr ∨ (kc l = kr ∧ a2 * 2048 + l.val < a1 * 2048 + r.val)).card

open Classical in
/-- A row's entry after one tile, ties counted where there are any. -/
theorem tile_apply (a1 a2 : ℕ) (h1 : a1 < 64) (h2 : a2 < 64) (x0 x1 x2 : Vec Ideal S1x2048x1 .f32) (x3 x4 x5 : Vec Ideal S1x1x2048 .f32) (acc : Vec Ideal S1x2048x1 .i32) (r : Fin 2048) :
    (if ties0 x0 x3 then
        k0_pay2 (BitVec.ofNat 32 a1) (BitVec.ofNat 32 a2) (k0_pay5 x1) (k0_pay6 x2) (k0_pay8 x4) (k0_pay9 x5) (k0_pay10 x0 x3) (k0_pay11 x0 x3 acc)
      else k0_pay11 x0 x3 acc) (ix3 0 r 0)
      = acc (ix3 0 r 0) + BitVec.ofNat 32 (tileCount a1 a2 (rowKey x0 x1 x2 r) (colKey x3 x4 x5) r) := by
  have hsplit : tileCount a1 a2 (rowKey x0 x1 x2 r) (colKey x3 x4 x5) r
      = (Finset.univ.filter fun l : Fin 2048 => x3 (ix3 0 0 l) < x0 (ix3 0 r 0)).card
        + (Finset.univ.filter fun l : Fin 2048 => x3 (ix3 0 0 l) = x0 (ix3 0 r 0) ∧
          (x4 (ix3 0 0 l) < x1 (ix3 0 r 0) ∨ (x4 (ix3 0 0 l) = x1 (ix3 0 r 0) ∧
            (x5 (ix3 0 0 l) < x2 (ix3 0 r 0) ∨ (x5 (ix3 0 0 l) = x2 (ix3 0 r 0) ∧
              a2 * 2048 + l.val < a1 * 2048 + r.val))))).card := by
    rw [← Finset.card_union_of_disjoint]
    · unfold tileCount
      congr 1
      ext l
      simp only [Finset.mem_filter, Finset.mem_univ, true_and, Finset.mem_union, lexLt, colKey, rowKey, Prod.mk.injEq]
      tauto
    · rw [Finset.disjoint_filter]
      intro l _ h h'
      exact h.ne h'.1
  rw [hsplit]
  by_cases ht : ties0 x0 x3
  · rw [if_pos ht, pay2_apply a1 a2 h1 h2, pay11_apply, BitVec.ofNat_add, BitVec.add_assoc]
  · rw [if_neg ht, pay11_apply]
    have e : (Finset.univ.filter fun l : Fin 2048 => x3 (ix3 0 0 l) = x0 (ix3 0 r 0) ∧
          (x4 (ix3 0 0 l) < x1 (ix3 0 r 0) ∨ (x4 (ix3 0 0 l) = x1 (ix3 0 r 0) ∧
            (x5 (ix3 0 0 l) < x2 (ix3 0 r 0) ∨ (x5 (ix3 0 0 l) = x2 (ix3 0 r 0) ∧
              a2 * 2048 + l.val < a1 * 2048 + r.val))))) = ∅ :=
      Finset.filter_eq_empty_iff.mpr fun l _ h => ties0_apply x0 x3 ht r l h.1
    rw [e]
    rfl

/-- One point of the first rank region. -/
theorem step0_apply (i : grid0.Coords) (x0 x1 x2 : Vec Ideal S1x2048x1 .f32) (x3 x4 x5 : Vec Ideal S1x1x2048 .f32) (acc : Vec Ideal S1x2048x1 .i32) (r : Fin 2048) :
    step0 i x0 x1 x2 x3 x4 x5 acc (ix3 0 r 0)
      = (open Classical in if first0 i then (0#32 : BitVec 32) else acc (ix3 0 r 0)) + BitVec.ofNat 32 (tileCount (i 1).val (i 2).val (rowKey x0 x1 x2 r) (colKey x3 x4 x5) r) := by
  have h1 : (i 1).val < 32 := (i 1).isLt
  have h2 : (i 2).val < 32 := (i 2).isLt
  unfold step0 half0
  refine (tile_apply (i 1).val (i 2).val (by omega) (by omega) x0 x1 x2 x3 x4 x5 _ r).trans ?_
  split <;> rfl

/-- One point of the second rank region. -/
theorem step2_apply (i : grid2.Coords) (x0 x1 x2 : Vec Ideal S1x2048x1 .f32) (x3 x4 x5 : Vec Ideal S1x1x2048 .f32) (acc : Vec Ideal S1x2048x1 .i32) (r : Fin 2048) :
    step2 i x0 x1 x2 x3 x4 x5 acc (ix3 0 r 0)
      = (open Classical in if first2 i then (0#32 : BitVec 32) else acc (ix3 0 r 0)) + BitVec.ofNat 32 (tileCount (i 1).val (i 2).val (rowKey x0 x1 x2 r) (colKey x3 x4 x5) r) := by
  have h1 : (i 1).val < 64 := (i 1).isLt
  have h2 : (i 2).val < 64 := (i 2).isLt
  unfold step2 half2
  refine (tile_apply (i 1).val (i 2).val h1 h2 x0 x1 x2 x3 x4 x5 _ r).trans ?_
  split <;> rfl

end Cert.KernelIdeal.Own

end
-- ==== Proof.RankCount.lean ====
/-
  A rank counted tile by tile: the positions before a place among the first tiles, and one more tile of them.
-/
module

public import proofs.«01_k».proof.Proof.LexRank
public import proofs.«01_k».proof.Proof.RankTile

@[expose] public section

noncomputable section

namespace Cert.KernelIdeal.Own

open Cert.Own

theorem toNat_small (n : ℕ) (h : n < 4294967296) : (BitVec.ofNat 32 n).toNat = n := by
  rw [BitVec.toNat_ofNat]; exact Nat.mod_eq_of_lt h

open Classical in
/-- The positions below `m` that come before `i`. -/
def countTo {n : ℕ} (key : Fin n → Key) (i : Fin n) (m : ℕ) : ℕ := (Finset.univ.filter fun j : Fin n => j.val < m ∧ Before key j i).card

theorem countTo_zero {n : ℕ} (key : Fin n → Key) (i : Fin n) : countTo key i 0 = 0 := by
  classical
  unfold countTo
  rw [Finset.card_eq_zero, Finset.filter_eq_empty_iff]
  rintro j - ⟨h, -⟩
  exact absurd h (Nat.not_lt_zero _)

theorem countTo_all {n : ℕ} (key : Fin n → Key) (i : Fin n) : countTo key i n = rank key i := by
  classical
  unfold countTo rank
  congr 1
  ext j
  simp [j.isLt]

/-- One more tile: the columns `a2 * 2048 …` counted for the row `a1 * 2048 + r`. -/
theorem countTo_tile {n : ℕ} (key : Fin n → Key) (i : Fin n) (a1 a2 : ℕ) (r : Fin 2048) (hi : i.val = a1 * 2048 + r.val)
    (col : Fin 2048 → Fin n) (hcol : ∀ l, (col l).val = a2 * 2048 + l.val) :
    countTo key i (a2 * 2048 + 2048) = countTo key i (a2 * 2048) + tileCount a1 a2 (key i) (fun l => key (col l)) r := by
  classical
  have e : tileCount a1 a2 (key i) (fun l => key (col l)) r
      = (Finset.univ.filter fun j : Fin n => (a2 * 2048 ≤ j.val ∧ j.val < a2 * 2048 + 2048) ∧ Before key j i).card := by
    unfold tileCount
    refine Finset.card_bij (fun l _ => col l) ?_ ?_ ?_
    · intro l hl
      simp only [Finset.mem_filter, Finset.mem_univ, true_and] at hl ⊢
      have := hcol l
      have := l.isLt
      refine ⟨by omega, ?_⟩
      rcases hl with h | ⟨h, h'⟩
      · exact .inl h
      · exact .inr ⟨h, by rw [Fin.lt_def, hi, hcol l]; exact h'⟩
    · intro l _ l' _ h
      have h1 := hcol l
      have h2 := hcol l'
      rw [h] at h1
      exact Fin.ext (by omega)
    · intro j hj
      simp only [Finset.mem_filter, Finset.mem_univ, true_and] at hj
      have hc : col ⟨j.val - a2 * 2048, by omega⟩ = j := Fin.ext (by rw [hcol]; dsimp only; omega)
      refine ⟨⟨j.val - a2 * 2048, by omega⟩, ?_, hc⟩
      simp only [Finset.mem_filter, Finset.mem_univ, true_and]
      rw [hc]
      rcases hj.2 with h | ⟨h, h'⟩
      · exact .inl h
      · exact .inr ⟨h, by rw [Fin.lt_def, hi] at h'; omega⟩
  rw [e]
  unfold countTo
  rw [← Finset.card_union_of_disjoint]
  · congr 1
    ext j
    simp only [Finset.mem_filter, Finset.mem_univ, true_and, Finset.mem_union]
    constructor
    · rintro ⟨h, h'⟩
      by_cases hl : j.val < a2 * 2048
      · exact .inl ⟨hl, h'⟩
      · exact .inr ⟨⟨by omega, h⟩, h'⟩
    · rintro (⟨h, h'⟩ | ⟨h, h'⟩)
      · exact ⟨by omega, h'⟩
      · exact ⟨h.2, h'⟩
  · rw [Finset.disjoint_filter]
    rintro j - ⟨h, -⟩ ⟨⟨h', -⟩, -⟩
    omega

end Cert.KernelIdeal.Own

end
-- ==== Proof.HostVals.lean ====
/-
  What the kernel program's operations between the regions leave in the buffers, as terms of the buffers they find.
-/
module

public import proofs.«01_k».proof.Proof.Run
public import proofs.«01_k».proof.Proof.Indexing
public import proofs.«01_k».proof.Proof.RankCount

@[expose] public section

set_option maxRecDepth 16384

noncomputable section

namespace Cert.KernelIdeal.Own

open Cert.KernelIdeal Cert.KernelIdeal.Gen Idealize.ShloMosaic Idealize.ShloMosaic.TcCoe Idealize.SL.Sem Cert.Own

/-- The vertices moved to the middle of the batch's box and scaled by its longest side. -/
def normal (x : FVec Ideal S16x65536x3 .f32) : FVec Ideal S16x65536x3 .f32 :=
  Host.divf (subf x (broadcastInDim S16x65536x3 ![0, 1, 2] bcast_S1x65536x3_S16x65536x3_0_1_2 (broadcastInDim S1x65536x3 ![1, 2] bcast_S65536x3_S1x65536x3_1_2
      (Host.divf (addf (Host.reduce FloatOps.minimumf x (constant S_ .f32 0x7F800000#32) reducesTo_S16x65536x3_S65536x3_d0 h_S_)
        (Host.reduce FloatOps.maximumf x (constant S_ .f32 0xFF800000#32) reducesTo_S16x65536x3_S65536x3_d0 h_S_))
        (broadcastInDim S65536x3 ![] bcast_S_S65536x3 (constant S_ .f32 0x40000000#32))))))
    (broadcastInDim S16x65536x3 ![] bcast_S_S16x65536x3
      (Host.reduce FloatOps.maximumf (subf (Host.reduce FloatOps.maximumf x (constant S_ .f32 0xFF800000#32) reducesTo_S16x65536x3_S65536x3_d0 h_S_)
        (Host.reduce FloatOps.minimumf x (constant S_ .f32 0x7F800000#32) reducesTo_S16x65536x3_S65536x3_d0 h_S_))
        (constant S_ .f32 0xFF800000#32) reducesTo_S65536x3_S_d0_1 h_S_))

/-- The reference scales the vertices the same way. -/
theorem ref_normal (V0 : Valuation Cert.ReferenceIdeal.τ Cert.ReferenceIdeal.sig (Elt Ideal)) :
    Cert.ReferenceIdeal.Value.res_main_v11 V0 = normal (V0 (Proc.devRef .tc Cert.ReferenceIdeal.main_arg0)) := rfl

variable (V : Valuation τ sig (Elt Ideal))

set_option maxHeartbeats 2000000 in
/-- The first stretch scales the vertices. -/
theorem ops0_v11 : StableHlo.after hostOps0 V (Proc.devRef .tc main_v11) = normal (V (Proc.devRef .tc main_arg0)) := by
  simp only [hostOps0, StableHlo.TRef.nullary, StableHlo.TRef.quaternary, StableHlo.TRef.unary, StableHlo.TRef.toBuf, StableHlo.TRef.ofBuf, cast_eq]
  after_results_simp
  rfl

set_option maxHeartbeats 4000000 in
/-- The first stretch lays the scaled vertices out as columns, last coordinate first. -/
theorem ops0_cols (b : Fin 16) (i : Fin 65536) :
    ((StableHlo.after hostOps0 V (Proc.devRef .tc main_v18) : FVec Ideal S16x65536x1 .f32) (ix3 b i 0),
      (StableHlo.after hostOps0 V (Proc.devRef .tc main_v19) : FVec Ideal S16x65536x1 .f32) (ix3 b i 0),
      (StableHlo.after hostOps0 V (Proc.devRef .tc main_v20) : FVec Ideal S16x65536x1 .f32) (ix3 b i 0))
      = Cert.ReferenceIdeal.Own.vertexKey (normal (V (Proc.devRef .tc main_arg0))) b i := by
  rw [← ops0_v11]
  generalize hx : StableHlo.after hostOps0 V (Proc.devRef .tc main_v11) = x
  revert hx
  simp only [hostOps0, StableHlo.TRef.nullary, StableHlo.TRef.quaternary, StableHlo.TRef.unary, StableHlo.TRef.toBuf, StableHlo.TRef.ofBuf, cast_eq]
  after_results_simp
  intro hx
  rw [hx]
  refine Prod.ext ?_ (Prod.ext ?_ ?_) <;> pointwise [Cert.ReferenceIdeal.Own.vertexKey]

set_option maxHeartbeats 4000000 in
/-- And as rows. -/
theorem ops0_rows (b : Fin 16) (i : Fin 65536) :
    ((StableHlo.after hostOps0 V (Proc.devRef .tc main_v21) : FVec Ideal S16x1x65536 .f32) (ix3 b 0 i),
      (StableHlo.after hostOps0 V (Proc.devRef .tc main_v22) : FVec Ideal S16x1x65536 .f32) (ix3 b 0 i),
      (StableHlo.after hostOps0 V (Proc.devRef .tc main_v23) : FVec Ideal S16x1x65536 .f32) (ix3 b 0 i))
      = Cert.ReferenceIdeal.Own.vertexKey (normal (V (Proc.devRef .tc main_arg0))) b i := by
  rw [← ops0_v11]
  generalize hx : StableHlo.after hostOps0 V (Proc.devRef .tc main_v11) = x
  revert hx
  simp only [hostOps0, StableHlo.TRef.nullary, StableHlo.TRef.quaternary, StableHlo.TRef.unary, StableHlo.TRef.toBuf, StableHlo.TRef.ofBuf, cast_eq]
  after_results_simp
  intro hx
  rw [hx]
  refine Prod.ext ?_ (Prod.ext ?_ ?_) <;> pointwise [Cert.ReferenceIdeal.Own.vertexKey]

/-- Each batch's own number, a possible negative wrapped. -/
def batchWords : IVec S16x1 32 :=
  select (cmpi .slt (broadcastInDim S16x1 ![0] bcast_S16_S16x1_0 (iotaInDim S16 32 0)) (broadcastInDim S16x1 ![] bcast_S_S16x1 (constantI S_ 32 0#32)))
    (addi (broadcastInDim S16x1 ![0] bcast_S16_S16x1_0 (iotaInDim S16 32 0)) (broadcastInDim S16x1 ![] bcast_S_S16x1 (constantI S_ 32 16#32)))
    (broadcastInDim S16x1 ![0] bcast_S16_S16x1_0 (iotaInDim S16 32 0))

/-- The batch words are the batches' numbers. -/
theorem batchWords_at (b : Fin 16) : batchWords (ix2 b 0) = BitVec.ofNat 32 b.val := by
  refine Eq.trans ?_ (Routing.wrap_of_lt (BitVec.ofNat 32 b.val) (BitVec.ofNat 32 b.val + 16#32) ?_)
  · pointwise [batchWords]; rfl
  · have := toNat_small b.val (by omega)
    omega

/-- Where the vertices go: batch word and rank word side by side. -/
def vertexPlaces (r : IVec S16x65536x1 32) : IVec S16x65536x2 32 :=
  concatenate S16x65536x2 2 [⟨S16x65536x1, broadcastInDim S16x65536x1 ![0, 1] bcast_S16x65536_S16x65536x1_0_1 (broadcastInDim S16x65536 ![0, 1] bcast_S16x1_S16x65536_0_1 batchWords)⟩,
    ⟨S16x65536x1, broadcastInDim S16x65536x1 ![0, 1] bcast_S16x65536_S16x65536x1_0_1
      (select (cmpi .slt (shapeCast S16x65536 r shapeCasts_S16x65536x1_S16x65536) (broadcastInDim S16x65536 ![] bcast_S_S16x65536 (constantI S_ 32 0#32)))
        (addi (shapeCast S16x65536 r shapeCasts_S16x65536x1_S16x65536) (broadcastInDim S16x65536 ![] bcast_S_S16x65536 (constantI S_ 32 65536#32)))
        (shapeCast S16x65536 r shapeCasts_S16x65536x1_S16x65536))⟩] concatenates_S16x65536x1_S16x65536x1_S16x65536x2_d2

/-- The first word is the batch. -/
theorem vertexPlaces_0 (r : IVec S16x65536x1 32) (b : Fin 16) (i : Fin 65536) : vertexPlaces r (ix3 b i 0) = BitVec.ofNat 32 b.val := by
  rw [← batchWords_at]
  generalize hB : batchWords = B
  unfold vertexPlaces
  rw [hB]
  pointwise []

/-- The second word is the rank. -/
theorem vertexPlaces_1 (r : IVec S16x65536x1 32) (b : Fin 16) (i : Fin 65536) (v : ℕ) (hv : v < 65536) (h : r (ix3 b i 0) = BitVec.ofNat 32 v) :
    vertexPlaces r (ix3 b i 1) = BitVec.ofNat 32 v := by
  refine Eq.trans ?_ (Routing.wrap_of_lt (BitVec.ofNat 32 v) (BitVec.ofNat 32 v + 65536#32) ?_)
  · rw [← h]
    generalize hB : batchWords = B
    unfold vertexPlaces
    rw [hB]
    pointwise []
    rfl
  · have := toNat_small v (by omega)
    omega

set_option maxHeartbeats 4000000 in
/-- The second stretch puts each scaled vertex at its rank. -/
theorem ops1_v43 : StableHlo.after hostOps1 V (Proc.devRef .tc main_v43)
    = Host.scatter scatter_S16x65536x3_S16x65536x2_S16x65536x3_2_01_01_2 (fun _ b => b)
        (broadcastInDim S16x65536x3 ![] bcast_S_S16x65536x3 (constant (F := Ideal) S_ .f32 0x00000000#32)) (vertexPlaces (V (Proc.devRef .tc main_v24))) (V (Proc.devRef .tc main_v11)) := by
  simp only [hostOps1, StableHlo.TRef.nullary, StableHlo.TRef.quaternary, StableHlo.TRef.unary, StableHlo.TRef.toBuf, StableHlo.TRef.ofBuf, cast_eq]
  after_results_simp
  rfl

set_option maxHeartbeats 4000000 in
/-- It takes the corners of each face out of them. -/
theorem ops1_v50 : StableHlo.after hostOps1 V (Proc.devRef .tc main_v50)
    = Host.gather gather_S16x65536x3_S16x131072x3x1_S16x131072x3x3_3_1_0_0_1_3_113 (StableHlo.after hostOps1 V (Proc.devRef .tc main_v43))
        (broadcastInDim S16x131072x3x1 ![0, 1, 2] bcast_S16x131072x3_S16x131072x3x1_0_1_2
          (select (cmpi .slt (V (Proc.devRef .tc main_arg1)) (broadcastInDim S16x131072x3 ![] bcast_S_S16x131072x3 (constantI S_ 32 0#32)))
            (addi (V (Proc.devRef .tc main_arg1)) (broadcastInDim S16x131072x3 ![] bcast_S_S16x131072x3 (constantI S_ 32 65536#32))) (V (Proc.devRef .tc main_arg1)))) := by
  simp only [hostOps1, StableHlo.TRef.nullary, StableHlo.TRef.quaternary, StableHlo.TRef.unary, StableHlo.TRef.toBuf, StableHlo.TRef.ofBuf, cast_eq]
  after_results_simp

set_option maxHeartbeats 4000000 in
/-- And lays the nine numbers of a face out along the rows. -/
theorem ops1_v52 : StableHlo.after hostOps1 V (Proc.devRef .tc main_v52)
    = transpose S16x9x131072 [0, 2, 1] (shapeCast S16x131072x9 (StableHlo.after hostOps1 V (Proc.devRef .tc main_v50) : FVec Ideal S16x131072x3x3 .f32)
        shapeCasts_S16x131072x3x3_S16x131072x9) transposes_S16x131072x9_S16x9x131072_0_2_1 := by
  simp only [hostOps1, StableHlo.TRef.nullary, StableHlo.TRef.quaternary, StableHlo.TRef.unary, StableHlo.TRef.toBuf, StableHlo.TRef.ofBuf, cast_eq]
  after_results_simp
  rfl

/-- The mean of each face's corners. -/
def centre (x : FVec Ideal S16x131072x3x3 .f32) : FVec Ideal S16x131072x3 .f32 :=
  Host.divf (Host.reduceAdd x (constant S_ .f32 0x00000000#32) reducesTo_S16x131072x3x3_S16x131072x3_d2 h_S_)
    (broadcastInDim S16x131072x3 ![] bcast_S_S16x131072x3 (constant S_ .f32 0x40400000#32))

/-- The reference takes the same mean. -/
theorem ref_centre (V0 : Valuation Cert.ReferenceIdeal.τ Cert.ReferenceIdeal.sig (Elt Ideal)) :
    Cert.ReferenceIdeal.Value.res_main_v43 V0 = centre (Cert.ReferenceIdeal.Value.res_main_v32 V0) := rfl

set_option maxHeartbeats 4000000 in
theorem ops2_v56 : StableHlo.after hostOps2 V (Proc.devRef .tc main_v56) = centre (V (Proc.devRef .tc main_v50)) := by
  simp only [hostOps2, StableHlo.TRef.nullary, StableHlo.TRef.quaternary, StableHlo.TRef.unary, StableHlo.TRef.toBuf, StableHlo.TRef.ofBuf, cast_eq]
  after_results_simp
  rfl

set_option maxHeartbeats 4000000 in
/-- The third stretch lays the means out as columns, last coordinate first. -/
theorem ops2_cols (b : Fin 16) (i : Fin 131072) :
    ((StableHlo.after hostOps2 V (Proc.devRef .tc main_v63) : FVec Ideal S16x131072x1 .f32) (ix3 b i 0),
      (StableHlo.after hostOps2 V (Proc.devRef .tc main_v64) : FVec Ideal S16x131072x1 .f32) (ix3 b i 0),
      (StableHlo.after hostOps2 V (Proc.devRef .tc main_v65) : FVec Ideal S16x131072x1 .f32) (ix3 b i 0))
      = Cert.ReferenceIdeal.Own.faceKey (centre (V (Proc.devRef .tc main_v50))) b i := by
  rw [← ops2_v56]
  generalize hx : StableHlo.after hostOps2 V (Proc.devRef .tc main_v56) = x
  revert hx
  simp only [hostOps2, StableHlo.TRef.nullary, StableHlo.TRef.quaternary, StableHlo.TRef.unary, StableHlo.TRef.toBuf, StableHlo.TRef.ofBuf, cast_eq]
  after_results_simp
  intro hx
  rw [hx]
  refine Prod.ext ?_ (Prod.ext ?_ ?_) <;> pointwise [Cert.ReferenceIdeal.Own.faceKey]

set_option maxHeartbeats 4000000 in
/-- And as rows. -/
theorem ops2_rows (b : Fin 16) (i : Fin 131072) :
    ((StableHlo.after hostOps2 V (Proc.devRef .tc main_v66) : FVec Ideal S16x1x131072 .f32) (ix3 b 0 i),
      (StableHlo.after hostOps2 V (Proc.devRef .tc main_v67) : FVec Ideal S16x1x131072 .f32) (ix3 b 0 i),
      (StableHlo.after hostOps2 V (Proc.devRef .tc main_v68) : FVec Ideal S16x1x131072 .f32) (ix3 b 0 i))
      = Cert.ReferenceIdeal.Own.faceKey (centre (V (Proc.devRef .tc main_v50))) b i := by
  rw [← ops2_v56]
  generalize hx : StableHlo.after hostOps2 V (Proc.devRef .tc main_v56) = x
  revert hx
  simp only [hostOps2, StableHlo.TRef.nullary, StableHlo.TRef.quaternary, StableHlo.TRef.unary, StableHlo.TRef.toBuf, StableHlo.TRef.ofBuf, cast_eq]
  after_results_simp
  intro hx
  rw [hx]
  refine Prod.ext ?_ (Prod.ext ?_ ?_) <;> pointwise [Cert.ReferenceIdeal.Own.faceKey]

/-- Where the faces go: batch word and rank word side by side. -/
def facePlaces (r : IVec S16x131072x1 32) : IVec S16x131072x2 32 :=
  concatenate S16x131072x2 2 [⟨S16x131072x1, broadcastInDim S16x131072x1 ![0, 1] bcast_S16x131072_S16x131072x1_0_1 (broadcastInDim S16x131072 ![0, 1] bcast_S16x1_S16x131072_0_1 batchWords)⟩,
    ⟨S16x131072x1, broadcastInDim S16x131072x1 ![0, 1] bcast_S16x131072_S16x131072x1_0_1
      (select (cmpi .slt (shapeCast S16x131072 r shapeCasts_S16x131072x1_S16x131072) (broadcastInDim S16x131072 ![] bcast_S_S16x131072 (constantI S_ 32 0#32)))
        (addi (shapeCast S16x131072 r shapeCasts_S16x131072x1_S16x131072) (broadcastInDim S16x131072 ![] bcast_S_S16x131072 (constantI S_ 32 131072#32)))
        (shapeCast S16x131072 r shapeCasts_S16x131072x1_S16x131072))⟩] concatenates_S16x131072x1_S16x131072x1_S16x131072x2_d2

/-- The first word is the batch. -/
theorem facePlaces_0 (r : IVec S16x131072x1 32) (b : Fin 16) (i : Fin 131072) : facePlaces r (ix3 b i 0) = BitVec.ofNat 32 b.val := by
  rw [← batchWords_at]
  generalize hB : batchWords = B
  unfold facePlaces
  rw [hB]
  pointwise []

/-- The second word is the rank. -/
theorem facePlaces_1 (r : IVec S16x131072x1 32) (b : Fin 16) (i : Fin 131072) (v : ℕ) (hv : v < 131072) (h : r (ix3 b i 0) = BitVec.ofNat 32 v) :
    facePlaces r (ix3 b i 1) = BitVec.ofNat 32 v := by
  refine Eq.trans ?_ (Routing.wrap_of_lt (BitVec.ofNat 32 v) (BitVec.ofNat 32 v + 131072#32) ?_)
  · rw [← h]
    generalize hB : batchWords = B
    unfold facePlaces
    rw [hB]
    pointwise []
    rfl
  · have := toNat_small v (by omega)
    omega

set_option maxHeartbeats 4000000 in
/-- The fourth stretch puts each face's codes at the face's rank. -/
theorem ops3_v89 : StableHlo.after hostOps3 V (Proc.devRef .tc main_v89)
    = Host.scatter scatter_S16x131072x9_S16x131072x2_S16x131072x9_2_01_01_2 (fun _ b => b)
        (broadcastInDim S16x131072x9 ![] bcast_S_S16x131072x9 (constantI S_ 32 0#32)) (facePlaces (V (Proc.devRef .tc main_v69)))
        (transpose S16x131072x9 [0, 2, 1] (V (Proc.devRef .tc main_v53) : IVec S16x9x131072 32) transposes_S16x9x131072_S16x131072x9_0_2_1) := by
  simp only [hostOps3, StableHlo.TRef.nullary, StableHlo.TRef.quaternary, StableHlo.TRef.unary, StableHlo.TRef.toBuf, StableHlo.TRef.ofBuf, cast_eq]
  after_results_simp
  rfl

set_option maxHeartbeats 4000000 in
/-- And lays them out in one row a batch. -/
theorem ops3_v90 : StableHlo.after hostOps3 V (Proc.devRef .tc main_v90)
    = shapeCast S16x1179648 (StableHlo.after hostOps3 V (Proc.devRef .tc main_v89) : IVec S16x131072x9 32) shapeCasts_S16x131072x9_S16x1179648 := by
  simp only [hostOps3, StableHlo.TRef.nullary, StableHlo.TRef.quaternary, StableHlo.TRef.unary, StableHlo.TRef.toBuf, StableHlo.TRef.ofBuf, cast_eq]
  after_results_simp
  rfl

set_option maxHeartbeats 4000000 in
theorem ops3_v91 : StableHlo.after hostOps3 V (Proc.devRef .tc main_v91)
    = shapeCast S16x9216x128 (StableHlo.after hostOps3 V (Proc.devRef .tc main_v90) : IVec S16x1179648 32) shapeCasts_S16x1179648_S16x9216x128 := by
  simp only [hostOps3, StableHlo.TRef.nullary, StableHlo.TRef.quaternary, StableHlo.TRef.unary, StableHlo.TRef.toBuf, StableHlo.TRef.ofBuf, cast_eq]
  after_results_simp
  rfl

set_option maxHeartbeats 4000000 in
/-- The last stretch: the reconstruction in the faces' layout. -/
theorem ops4_v93 : StableHlo.after hostOps4 V (Proc.devRef .tc main_v93)
    = shapeCast S16x131072x3x3 (V (Proc.devRef .tc main_v92) : FVec Ideal S16x9216x128 .f32) shapeCasts_S16x9216x128_S16x131072x3x3 := by
  simp only [hostOps4, StableHlo.TRef.nullary, StableHlo.TRef.quaternary, StableHlo.TRef.unary, StableHlo.TRef.toBuf, StableHlo.TRef.ofBuf, cast_eq]
  after_results_simp
  rfl

set_option maxHeartbeats 4000000 in
/-- The codes in the faces' layout. -/
theorem ops4_v94 : StableHlo.after hostOps4 V (Proc.devRef .tc main_v94)
    = shapeCast S16x131072x3x3 (V (Proc.devRef .tc main_v90) : IVec S16x1179648 32) shapeCasts_S16x1179648_S16x131072x3x3 := by
  simp only [hostOps4, StableHlo.TRef.nullary, StableHlo.TRef.quaternary, StableHlo.TRef.unary, StableHlo.TRef.toBuf, StableHlo.TRef.ofBuf, cast_eq]
  after_results_simp
  rfl

set_option maxHeartbeats 4000000 in
/-- The codes between two words of minus one. -/
theorem ops4_v96 : StableHlo.after hostOps4 V (Proc.devRef .tc main_v96)
    = concatenate S16x1179650 1 [⟨S16x1, broadcastInDim S16x1 ![] bcast_S_S16x1 (constantI S_ 32 4294967295#32)⟩, ⟨S16x1179648, (V (Proc.devRef .tc main_v90) : IVec S16x1179648 32)⟩,
        ⟨S16x1, broadcastInDim S16x1 ![] bcast_S_S16x1 (constantI S_ 32 4294967295#32)⟩] concatenates_S16x1_S16x1179648_S16x1_S16x1179650_d1 := by
  simp only [hostOps4, StableHlo.TRef.nullary, StableHlo.TRef.quaternary, StableHlo.TRef.unary, StableHlo.TRef.toBuf, StableHlo.TRef.ofBuf, cast_eq]
  after_results_simp
  rfl

set_option maxHeartbeats 4000000 in
/-- The attention row: ones between two minus ones. -/
theorem ops4_v99 : StableHlo.after hostOps4 V (Proc.devRef .tc main_v99)
    = concatenate S16x1179650 1 [⟨S16x1, sitofp (F := Ideal) .f32 (broadcastInDim S16x1 ![] bcast_S_S16x1 (constantI S_ 32 4294967295#32))⟩,
        ⟨S16x1179648, broadcastInDim S16x1179648 ![] bcast_S_S16x1179648 (constant (F := Ideal) S_ .f32 0x3F800000#32)⟩,
        ⟨S16x1, sitofp (F := Ideal) .f32 (broadcastInDim S16x1 ![] bcast_S_S16x1 (constantI S_ 32 4294967295#32))⟩] concatenates_S16x1_S16x1179648_S16x1_S16x1179650_d1 := by
  simp only [hostOps4, StableHlo.TRef.nullary, StableHlo.TRef.quaternary, StableHlo.TRef.unary, StableHlo.TRef.toBuf, StableHlo.TRef.ofBuf, cast_eq]
  after_results_simp
  rfl

end Cert.KernelIdeal.Own
-- ==== Proof.RankFold0.lean ====
/-
  The first rank region's output: at every row the number of rows before it in the lexicographic order of the keys, places
  breaking ties.
-/
module

public import proofs.«01_k».proof.Proof.RankTile
public import proofs.«01_k».proof.Proof.RankCount

@[expose] public section

set_option maxRecDepth 16384

noncomputable section

namespace Cert.KernelIdeal.Own

open Cert.KernelIdeal Cert.KernelIdeal.Gen Cert.Own Idealize.ShloMosaic Idealize.ShloMosaic.TcCoe Idealize.SL.Sem
open Idealize.ShloMosaic.Pipeline (Dat Cfg Window)

theorem coords0_0 (t : Fin cfg0.N) : (grid0.coords t 0).val = t.val / 1024 % 16 := Pipeline.Grid.coords_val t 0 (by decide) rfl
theorem coords0_1 (t : Fin cfg0.N) : (grid0.coords t 1).val = t.val / 32 % 32 := Pipeline.Grid.coords_val t 1 (by decide) rfl
theorem coords0_2 (t : Fin cfg0.N) : (grid0.coords t 2).val = t.val / 1 % 32 := Pipeline.Grid.coords_val t 2 (by decide) rfl

/-- A row window's block at a point: the batch and the row block. -/
theorem rowIdx0 (t : Fin cfg0.N) : cc0_transform_0 (grid0.coords t) = ![t.val / 1024 % 16, t.val / 32 % 32, 0] := by
  unfold cc0_transform_0
  dsimp only
  rw [coords0_0, coords0_1, toNat_small (t.val / 1024 % 16) (by omega), toNat_small (t.val / 32 % 32) (by omega)]
  rfl

/-- A column window's block at a point: the batch and the column block. -/
theorem colIdx0 (t : Fin cfg0.N) : cc0_transform_3 (grid0.coords t) = ![t.val / 1024 % 16, 0, t.val / 1 % 32] := by
  unfold cc0_transform_3
  dsimp only
  rw [coords0_0, coords0_2, toNat_small (t.val / 1024 % 16) (by omega), toNat_small (t.val / 1 % 32) (by omega)]
  rfl

/-- Every window's block at a point. -/
theorem idx0 (t : Fin cfg0.N) :
    win0_0.index t = ![t.val / 1024 % 16, t.val / 32 % 32, 0] ∧ win0_1.index t = ![t.val / 1024 % 16, t.val / 32 % 32, 0]
    ∧ win0_2.index t = ![t.val / 1024 % 16, t.val / 32 % 32, 0] ∧ win0_3.index t = ![t.val / 1024 % 16, 0, t.val / 1 % 32]
    ∧ win0_4.index t = ![t.val / 1024 % 16, 0, t.val / 1 % 32] ∧ win0_5.index t = ![t.val / 1024 % 16, 0, t.val / 1 % 32]
    ∧ win0_6.index t = ![t.val / 1024 % 16, t.val / 32 % 32, 0] :=
  ⟨rowIdx0 t, rowIdx0 t, rowIdx0 t, colIdx0 t, colIdx0 t, colIdx0 t, rowIdx0 t⟩

variable (V : (c : Dev nD) → Valuation τ sig (Elt Ideal)) (c : Dev nD) (key : Fin 16 → Fin 65536 → Key)

/-- A point's batch, the place of a row of its row block, and of a column of its column block. -/
def bat0 (t : Fin cfg0.N) : Fin 16 := ⟨t.val / 1024 % 16, by omega⟩
def row0 (t : Fin cfg0.N) (r : Fin 2048) : Fin 65536 := ⟨(t.val / 32 % 32) * 2048 + r.val, by omega⟩
def col0 (t : Fin cfg0.N) (r : Fin 2048) : Fin 65536 := ⟨(t.val / 1 % 32) * 2048 + r.val, by omega⟩

theorem rowKey0 (hrow : ∀ b i, ((V c main_v18 : Vec Ideal S16x65536x1 .f32) (ix3 b i 0), (V c main_v19 : Vec Ideal S16x65536x1 .f32) (ix3 b i 0), (V c main_v20 : Vec Ideal S16x65536x1 .f32) (ix3 b i 0)) = key b i)
    (t : Fin cfg0.N) (r : Fin 2048) : rowKey (blk0 V c 0 t) (blk0 V c 1 t) (blk0 V c 2 t) r = key (bat0 t) (row0 t r) := by
  rw [← hrow]
  unfold rowKey
  refine congrArg₂ Prod.mk ?_ (congrArg₂ Prod.mk ?_ ?_)
  · blk_ext [blk0, row0, bat0, idx0 t]
  · blk_ext [blk0, row0, bat0, idx0 t]
  · blk_ext [blk0, row0, bat0, idx0 t]

theorem colKey0 (hcol : ∀ b i, ((V c main_v21 : Vec Ideal S16x1x65536 .f32) (ix3 b 0 i), (V c main_v22 : Vec Ideal S16x1x65536 .f32) (ix3 b 0 i), (V c main_v23 : Vec Ideal S16x1x65536 .f32) (ix3 b 0 i)) = key b i)
    (t : Fin cfg0.N) (r : Fin 2048) : colKey (blk0 V c 3 t) (blk0 V c 4 t) (blk0 V c 5 t) r = key (bat0 t) (col0 t r) := by
  rw [← hcol]
  unfold colKey
  refine congrArg₂ Prod.mk ?_ (congrArg₂ Prod.mk ?_ ?_)
  · blk_ext [blk0, col0, bat0, idx0 t]
  · blk_ext [blk0, col0, bat0, idx0 t]
  · blk_ext [blk0, col0, bat0, idx0 t]

section
variable (hrow : ∀ b i, ((V c main_v18 : Vec Ideal S16x65536x1 .f32) (ix3 b i 0), (V c main_v19 : Vec Ideal S16x65536x1 .f32) (ix3 b i 0), (V c main_v20 : Vec Ideal S16x65536x1 .f32) (ix3 b i 0)) = key b i)
  (hcol : ∀ b i, ((V c main_v21 : Vec Ideal S16x1x65536 .f32) (ix3 b 0 i), (V c main_v22 : Vec Ideal S16x1x65536 .f32) (ix3 b 0 i), (V c main_v23 : Vec Ideal S16x1x65536 .f32) (ix3 b 0 i)) = key b i)
include hrow hcol

open Classical in
/-- One point's work over the contents before. -/
theorem at0_apply (t : Fin cfg0.N) (acc : Vec Ideal S1x2048x1 .i32) (r : Fin 2048) :
    at0 V c t.val t.isLt acc (ix3 0 r 0) = (if t.val % 32 = 0 then (0#32 : BitVec 32) else acc (ix3 0 r 0))
      + BitVec.ofNat 32 (tileCount (t.val / 32 % 32) (t.val / 1 % 32) (key (bat0 t) (row0 t r)) (fun l => key (bat0 t) (col0 t l)) r) := by
  refine (step0_apply (grid0.coords t) _ _ _ _ _ _ acc r).trans ?_
  refine congrArg₂ (fun a b : BitVec 32 => a + b) (if_congr (first0_iff t) rfl rfl) ?_
  rw [rowKey0 V c key hrow t r, show colKey (blk0 V c 3 t) (blk0 V c 4 t) (blk0 V c 5 t) = fun l => key (bat0 t) (col0 t l) from funext fun l => colKey0 V c key hcol t l]
  dsimp only
  rw [coords0_1, coords0_2]

/-- The accumulator after point `t`: the count over the tiles so far. -/
theorem acc0_apply (n : ℕ) : ∀ (t : Fin cfg0.N), t.val % 32 = n → ∀ r : Fin 2048,
    acc0 V c t (ix3 0 r 0) = BitVec.ofNat 32 (countTo (key (bat0 t)) (row0 t r) (t.val / 1 % 32 * 2048 + 2048)) := by
  classical
  induction n with
  | zero =>
    intro t ht r
    rw [acc0_first V c t ht]
    refine (at0_apply V c key hrow hcol t _ r).trans ?_
    rw [if_pos ht, countTo_tile (key (bat0 t)) (row0 t r) (t.val / 32 % 32) (t.val / 1 % 32) r rfl (col0 t) (fun _ => rfl)]
    rw [show t.val / 1 % 32 * 2048 = 0 from by omega, countTo_zero, Nat.zero_add, BitVec.zero_add]
  | succ n ih =>
    intro t ht r
    have hN : t.val < 16384 := Nat.lt_of_lt_of_eq t.isLt N_0
    rw [acc0_next V c t (by omega)]
    refine (at0_apply V c key hrow hcol t _ r).trans ?_
    rw [if_neg (by omega), ih ⟨t.val - 1, _⟩ (by dsimp only; omega) r]
    rw [countTo_tile (key (bat0 t)) (row0 t r) (t.val / 32 % 32) (t.val / 1 % 32) r rfl (col0 t) (fun _ => rfl), BitVec.ofNat_add]
    have e1 : bat0 ⟨t.val - 1, Nat.lt_of_le_of_lt (Nat.sub_le _ _) t.isLt⟩ = bat0 t := Fin.ext (by show (t.val - 1) / 1024 % 16 = t.val / 1024 % 16; omega)
    have e2 : row0 ⟨t.val - 1, Nat.lt_of_le_of_lt (Nat.sub_le _ _) t.isLt⟩ r = row0 t r := Fin.ext (by show (t.val - 1) / 32 % 32 * 2048 + r.val = t.val / 32 % 32 * 2048 + r.val; omega)
    rw [e1, e2, show (t.val - 1) / 1 % 32 * 2048 + 2048 = t.val / 1 % 32 * 2048 from by omega]

/-- The region's output array: every row's rank. -/
theorem out0_rank : (dat0 V c).arrAt 6 cfg0.N = fun i : S16x65536x1.Idx => BitVec.ofNat 32 (rank (key (i 0)) (i 1)) := by
  refine (dat0 V c).arrAt_eq_of_cover 6 _ (fun t hf => ?_) (fun i => ?_)
  · have hm := (flush0_6 t).mp hf
    funext y
    show acc0 V c t ((cfg0.win 6).xinj (grid0.coords t) y) = _
    have hy : (cfg0.win 6).xinj (grid0.coords t) y = ix3 0 (y 1) 0 := by
      funext a
      match a with
      | ⟨0, _⟩ => exact Fin.ext (by have : (y 0).val < 1 := (y 0).isLt; show (y 0).val = 0; omega)
      | ⟨1, _⟩ => rfl
      | ⟨2, _⟩ => exact Fin.ext (by have : (y 2).val < 1 := (y 2).isLt; show (y 2).val = 0; omega)
    rw [hy]
    refine (acc0_apply V c key hrow hcol _ t rfl (y 1)).trans ?_
    rw [show t.val / 1 % 32 * 2048 + 2048 = 65536 from by omega, countTo_all]
    have hb0 : (((cfg0.win 6).blk t).view.emb y 0).val = win0_6.index t (0 : Fin 3) * 1 + 1 * (y 0).val := rfl
    have hb1 : (((cfg0.win 6).blk t).view.emb y 1).val = win0_6.index t (1 : Fin 3) * 2048 + 1 * (y 1).val := rfl
    have h6 := (idx0 t).2.2.2.2.2.2
    have e0 : bat0 t = ((cfg0.win 6).blk t).view.emb y 0 := Fin.ext (by
      rw [hb0, h6]; have : (y 0).val < 1 := (y 0).isLt
      show t.val / 1024 % 16 = t.val / 1024 % 16 * 1 + 1 * (y 0).val; omega)
    have e1 : row0 t (y 1) = ((cfg0.win 6).blk t).view.emb y 1 := Fin.ext (by
      rw [hb1, h6]
      show t.val / 32 % 32 * 2048 + (y 1).val = t.val / 32 % 32 * 2048 + 1 * (y 1).val; omega)
    rw [e0, e1]
    rfl
  · have h0 : (i 0).val < 16 := (i 0).isLt
    have h1 : (i 1).val < 65536 := (i 1).isLt
    have h2 : (i 2).val < 1 := (i 2).isLt
    have hN : cfg0.N = 16384 := N_0
    obtain ⟨t, ht⟩ : ∃ t : Fin cfg0.N, t.val = (i 0).val * 1024 + (i 1).val / 2048 * 32 + 31 := ⟨⟨_, by omega⟩, rfl⟩
    refine ⟨t, (flush0_6 t).mpr (by omega), ?_⟩
    have e0 : t.val / 1024 % 16 = (i 0).val := by omega
    have e1 : t.val / 32 % 32 = (i 1).val / 2048 := by omega
    have h6 := (idx0 t).2.2.2.2.2.2
    rw [e0, e1] at h6
    mem_blk [h6]
    omega
end

end Cert.KernelIdeal.Own

end
-- ==== Proof.RankFold2.lean ====
/-
  The second rank region's output: at every row the number of rows before it in the lexicographic order of the keys, places
  breaking ties.
-/
module

public import proofs.«01_k».proof.Proof.RankTile
public import proofs.«01_k».proof.Proof.RankCount

@[expose] public section

set_option maxRecDepth 65536

noncomputable section

namespace Cert.KernelIdeal.Own

open Cert.KernelIdeal Cert.KernelIdeal.Gen Cert.Own Idealize.ShloMosaic Idealize.ShloMosaic.TcCoe Idealize.SL.Sem
open Idealize.ShloMosaic.Pipeline (Dat Cfg Window)

theorem coords2_0 (t : Fin cfg2.N) : (grid2.coords t 0).val = t.val / 4096 % 16 := Pipeline.Grid.coords_val t 0 (by decide) rfl
theorem coords2_1 (t : Fin cfg2.N) : (grid2.coords t 1).val = t.val / 64 % 64 := Pipeline.Grid.coords_val t 1 (by decide) rfl
theorem coords2_2 (t : Fin cfg2.N) : (grid2.coords t 2).val = t.val / 1 % 64 := Pipeline.Grid.coords_val t 2 (by decide) rfl

/-- A row window's block at a point: the batch and the row block. -/
theorem rowIdx2 (t : Fin cfg2.N) : cc2_transform_0 (grid2.coords t) = ![t.val / 4096 % 16, t.val / 64 % 64, 0] := by
  unfold cc2_transform_0
  dsimp only
  rw [coords2_0, coords2_1, toNat_small (t.val / 4096 % 16) (by omega), toNat_small (t.val / 64 % 64) (by omega)]
  rfl

/-- A column window's block at a point: the batch and the column block. -/
theorem colIdx2 (t : Fin cfg2.N) : cc2_transform_3 (grid2.coords t) = ![t.val / 4096 % 16, 0, t.val / 1 % 64] := by
  unfold cc2_transform_3
  dsimp only
  rw [coords2_0, coords2_2, toNat_small (t.val / 4096 % 16) (by omega), toNat_small (t.val / 1 % 64) (by omega)]
  rfl

/-- Every window's block at a point. -/
theorem idx2 (t : Fin cfg2.N) :
    win2_0.index t = ![t.val / 4096 % 16, t.val / 64 % 64, 0] ∧ win2_1.index t = ![t.val / 4096 % 16, t.val / 64 % 64, 0]
    ∧ win2_2.index t = ![t.val / 4096 % 16, t.val / 64 % 64, 0] ∧ win2_3.index t = ![t.val / 4096 % 16, 0, t.val / 1 % 64]
    ∧ win2_4.index t = ![t.val / 4096 % 16, 0, t.val / 1 % 64] ∧ win2_5.index t = ![t.val / 4096 % 16, 0, t.val / 1 % 64]
    ∧ win2_6.index t = ![t.val / 4096 % 16, t.val / 64 % 64, 0] :=
  ⟨rowIdx2 t, rowIdx2 t, rowIdx2 t, colIdx2 t, colIdx2 t, colIdx2 t, rowIdx2 t⟩

variable (V : (c : Dev nD) → Valuation τ sig (Elt Ideal)) (c : Dev nD) (key : Fin 16 → Fin 131072 → Key)

/-- A point's batch, the place of a row of its row block, and of a column of its column block. -/
def bat2 (t : Fin cfg2.N) : Fin 16 := ⟨t.val / 4096 % 16, by omega⟩
def row2 (t : Fin cfg2.N) (r : Fin 2048) : Fin 131072 := ⟨(t.val / 64 % 64) * 2048 + r.val, by omega⟩
def col2 (t : Fin cfg2.N) (r : Fin 2048) : Fin 131072 := ⟨(t.val / 1 % 64) * 2048 + r.val, by omega⟩

set_option maxHeartbeats 1000000 in
theorem rowKey2 (hrow : ∀ b i, ((V c main_v63 : Vec Ideal S16x131072x1 .f32) (ix3 b i 0), (V c main_v64 : Vec Ideal S16x131072x1 .f32) (ix3 b i 0), (V c main_v65 : Vec Ideal S16x131072x1 .f32) (ix3 b i 0)) = key b i)
    (t : Fin cfg2.N) (r : Fin 2048) : rowKey (blk2 V c 0 t) (blk2 V c 1 t) (blk2 V c 2 t) r = key (bat2 t) (row2 t r) := by
  rw [← hrow]
  unfold rowKey
  refine congrArg₂ Prod.mk ?_ (congrArg₂ Prod.mk ?_ ?_)
  · blk_ext [blk2, row2, bat2, idx2 t]
  · blk_ext [blk2, row2, bat2, idx2 t]
  · blk_ext [blk2, row2, bat2, idx2 t]

set_option maxHeartbeats 1000000 in
theorem colKey2 (hcol : ∀ b i, ((V c main_v66 : Vec Ideal S16x1x131072 .f32) (ix3 b 0 i), (V c main_v67 : Vec Ideal S16x1x131072 .f32) (ix3 b 0 i), (V c main_v68 : Vec Ideal S16x1x131072 .f32) (ix3 b 0 i)) = key b i)
    (t : Fin cfg2.N) (r : Fin 2048) : colKey (blk2 V c 3 t) (blk2 V c 4 t) (blk2 V c 5 t) r = key (bat2 t) (col2 t r) := by
  rw [← hcol]
  unfold colKey
  refine congrArg₂ Prod.mk ?_ (congrArg₂ Prod.mk ?_ ?_)
  · blk_ext [blk2, col2, bat2, idx2 t]
  · blk_ext [blk2, col2, bat2, idx2 t]
  · blk_ext [blk2, col2, bat2, idx2 t]

section
variable (hrow : ∀ b i, ((V c main_v63 : Vec Ideal S16x131072x1 .f32) (ix3 b i 0), (V c main_v64 : Vec Ideal S16x131072x1 .f32) (ix3 b i 0), (V c main_v65 : Vec Ideal S16x131072x1 .f32) (ix3 b i 0)) = key b i)
  (hcol : ∀ b i, ((V c main_v66 : Vec Ideal S16x1x131072 .f32) (ix3 b 0 i), (V c main_v67 : Vec Ideal S16x1x131072 .f32) (ix3 b 0 i), (V c main_v68 : Vec Ideal S16x1x131072 .f32) (ix3 b 0 i)) = key b i)
include hrow hcol

open Classical in
/-- One point's work over the contents before. -/
theorem at2_apply (t : Fin cfg2.N) (acc : Vec Ideal S1x2048x1 .i32) (r : Fin 2048) :
    at2 V c t.val t.isLt acc (ix3 0 r 0) = (if t.val % 64 = 0 then (0#32 : BitVec 32) else acc (ix3 0 r 0))
      + BitVec.ofNat 32 (tileCount (t.val / 64 % 64) (t.val / 1 % 64) (key (bat2 t) (row2 t r)) (fun l => key (bat2 t) (col2 t l)) r) := by
  refine (step2_apply (grid2.coords t) _ _ _ _ _ _ acc r).trans ?_
  refine congrArg₂ (fun a b : BitVec 32 => a + b) (if_congr (first2_iff t) rfl rfl) ?_
  rw [rowKey2 V c key hrow t r, show colKey (blk2 V c 3 t) (blk2 V c 4 t) (blk2 V c 5 t) = fun l => key (bat2 t) (col2 t l) from funext fun l => colKey2 V c key hcol t l]
  dsimp only
  rw [coords2_1, coords2_2]

/-- The accumulator after point `t`: the count over the tiles so far. -/
theorem acc2_apply (n : ℕ) : ∀ (t : Fin cfg2.N), t.val % 64 = n → ∀ r : Fin 2048,
    acc2 V c t (ix3 0 r 0) = BitVec.ofNat 32 (countTo (key (bat2 t)) (row2 t r) (t.val / 1 % 64 * 2048 + 2048)) := by
  classical
  induction n with
  | zero =>
    intro t ht r
    rw [acc2_first V c t ht]
    refine (at2_apply V c key hrow hcol t _ r).trans ?_
    rw [if_pos ht, countTo_tile (key (bat2 t)) (row2 t r) (t.val / 64 % 64) (t.val / 1 % 64) r rfl (col2 t) (fun _ => rfl)]
    rw [show t.val / 1 % 64 * 2048 = 0 from by omega, countTo_zero, Nat.zero_add, BitVec.zero_add]
  | succ n ih =>
    intro t ht r
    have hN : t.val < 65536 := Nat.lt_of_lt_of_eq t.isLt N_2
    rw [acc2_next V c t (by omega)]
    refine (at2_apply V c key hrow hcol t _ r).trans ?_
    rw [if_neg (by omega), ih ⟨t.val - 1, _⟩ (by dsimp only; omega) r]
    rw [countTo_tile (key (bat2 t)) (row2 t r) (t.val / 64 % 64) (t.val / 1 % 64) r rfl (col2 t) (fun _ => rfl), BitVec.ofNat_add]
    have e1 : bat2 ⟨t.val - 1, Nat.lt_of_le_of_lt (Nat.sub_le _ _) t.isLt⟩ = bat2 t := Fin.ext (by show (t.val - 1) / 4096 % 16 = t.val / 4096 % 16; omega)
    have e2 : row2 ⟨t.val - 1, Nat.lt_of_le_of_lt (Nat.sub_le _ _) t.isLt⟩ r = row2 t r := Fin.ext (by show (t.val - 1) / 64 % 64 * 2048 + r.val = t.val / 64 % 64 * 2048 + r.val; omega)
    rw [e1, e2, show (t.val - 1) / 1 % 64 * 2048 + 2048 = t.val / 1 % 64 * 2048 from by omega]

/-- The region's output array: every row's rank. -/
theorem out2_rank : (dat2 V c).arrAt 6 cfg2.N = fun i : S16x131072x1.Idx => BitVec.ofNat 32 (rank (key (i 0)) (i 1)) := by
  refine (dat2 V c).arrAt_eq_of_cover 6 _ (fun t hf => ?_) (fun i => ?_)
  · have hm := (flush2_6 t).mp hf
    funext y
    show acc2 V c t ((cfg2.win 6).xinj (grid2.coords t) y) = _
    have hy : (cfg2.win 6).xinj (grid2.coords t) y = ix3 0 (y 1) 0 := by
      funext a
      match a with
      | ⟨0, _⟩ => exact Fin.ext (by have : (y 0).val < 1 := (y 0).isLt; show (y 0).val = 0; omega)
      | ⟨1, _⟩ => rfl
      | ⟨2, _⟩ => exact Fin.ext (by have : (y 2).val < 1 := (y 2).isLt; show (y 2).val = 0; omega)
    rw [hy]
    refine (acc2_apply V c key hrow hcol _ t rfl (y 1)).trans ?_
    rw [show t.val / 1 % 64 * 2048 + 2048 = 131072 from by omega, countTo_all]
    have hb0 : (((cfg2.win 6).blk t).view.emb y 0).val = win2_6.index t (0 : Fin 3) * 1 + 1 * (y 0).val := rfl
    have hb1 : (((cfg2.win 6).blk t).view.emb y 1).val = win2_6.index t (1 : Fin 3) * 2048 + 1 * (y 1).val := rfl
    have h6 := (idx2 t).2.2.2.2.2.2
    have e0 : bat2 t = ((cfg2.win 6).blk t).view.emb y 0 := Fin.ext (by
      rw [hb0, h6]; have : (y 0).val < 1 := (y 0).isLt
      show t.val / 4096 % 16 = t.val / 4096 % 16 * 1 + 1 * (y 0).val; omega)
    have e1 : row2 t (y 1) = ((cfg2.win 6).blk t).view.emb y 1 := Fin.ext (by
      rw [hb1, h6]
      show t.val / 64 % 64 * 2048 + (y 1).val = t.val / 64 % 64 * 2048 + 1 * (y 1).val; omega)
    rw [e0, e1]
    rfl
  · have h0 : (i 0).val < 16 := (i 0).isLt
    have h1 : (i 1).val < 131072 := (i 1).isLt
    have h2 : (i 2).val < 1 := (i 2).isLt
    have hN : cfg2.N = 65536 := N_2
    obtain ⟨t, ht⟩ : ∃ t : Fin cfg2.N, t.val = (i 0).val * 4096 + (i 1).val / 2048 * 64 + 63 := ⟨⟨_, by omega⟩, rfl⟩
    refine ⟨t, (flush2_6 t).mpr (by omega), ?_⟩
    have e0 : t.val / 4096 % 16 = (i 0).val := by omega
    have e1 : t.val / 64 % 64 = (i 1).val / 2048 := by omega
    have h6 := (idx2 t).2.2.2.2.2.2
    rw [e0, e1] at h6
    mem_blk [h6]
    omega
end

end Cert.KernelIdeal.Own

end
-- ==== Proof.FaceTile.lean ====
/-
  One block of the face kernel: the three corners of a face put in lexicographic order and each coordinate's code.
-/
module

public import proofs.«01_k».proof.Proof.Face1
public import proofs.«01_k».proof.Proof.LexRank
public import proofs.«01_k».proof.Proof.RankTile

@[expose] public section

set_option maxRecDepth 16384

noncomputable section

namespace Cert.KernelIdeal.Own

open Cert.KernelIdeal Cert.KernelIdeal.Gen Cert.Own Idealize.ShloMosaic Idealize.ShloMosaic.TcCoe Idealize.SL.Sem

/-- The code of a coordinate as the kernel takes it: rounded, converted, clipped. -/
def code (x : EReal) : BitVec 32 :=
  IntOp.minsi 127#32 (IntOp.maxsi 0#32 (Ideal.fptosi 32 (Ideal.liftRound Ideal.roundHalfEven
    (Ideal.div (x - Ideal.ofBits .f32 0xBF800000#32) (Ideal.ofBits .f32 0x40000000#32) * Ideal.ofBits .f32 0x43000000#32 - Ideal.ofBits .f32 0x3F000000#32))))

/-- A selection by an equality test. -/
theorem select_eq_ite {α : Type} (a b : BitVec 32) (x y : α) : Scalar.select (IntOp.cmpi CmpIPredicate.eq a b) x y = if a = b then x else y := by
  show Scalar.select (BitVec.ofBool (a == b)) x y = _
  by_cases h : a = b
  · subst h; simp [Scalar.select]
  · have hb : (a == b) = false := by simpa using h
    rw [hb, if_neg h]; rfl

/-- The places the kernel gives the three corners. -/
def place0 (x0 : Vec Ideal S1x9x131072 .f32) : IVec S131072 32 := k1_pay17 (k1_pay12 x0) (k1_pay13 x0) k1_pay15 0#32
def place1 (x0 : Vec Ideal S1x9x131072 .f32) : IVec S131072 32 := k1_pay18 (k1_pay12 x0) (k1_pay14 x0) k1_pay15 0#32
def place2 (x0 : Vec Ideal S1x9x131072 .f32) : IVec S131072 32 := k1_pay19 (k1_pay13 x0) (k1_pay14 x0) k1_pay15 0#32

/-- The corner whose place is `j`, as the kernel's masked sum takes it. -/
def pick (x0 : Vec Ideal S1x9x131072 .f32) (f : Fin 131072) (j : BitVec 32) (a b c : EReal) : EReal :=
  0 + (if place0 x0 (ix1 f) = j then a else 0) + (if place1 x0 (ix1 f) = j then b else 0) + (if place2 x0 (ix1 f) = j then c else 0)

/-- A row of the block the kernel stores: the coded sum over the corners of the one whose place is `j`. -/
theorem out1_row (x0 : Vec Ideal S1x9x131072 .f32) (j d : Fin 3) (f : Fin 131072) :
    out1 x0 (ix3 0 ⟨3 * j.val + d.val, by omega⟩ f) = code (pick x0 f (BitVec.ofNat 32 j.val)
      (x0 (ix3 0 ⟨0 + d.val, by omega⟩ f)) (x0 (ix3 0 ⟨3 + d.val, by omega⟩ f)) (x0 (ix3 0 ⟨6 + d.val, by omega⟩ f))) := by
  unfold out1 code pick place0 place1 place2
  fin_cases j <;> fin_cases d <;>
    · pointwise [k1_pay1, k1_pay32, k1_pay20, k1_pay21, k1_pay22, k1_pay23, k1_pay24, k1_pay25, k1_pay26, k1_pay27, k1_pay28, k1_pay29, k1_pay30, k1_pay31,
        k1_pay2, k1_pay3, k1_pay4, k1_pay5, k1_pay6, k1_pay7, k1_pay8, k1_pay9, k1_pay10, k1_pay11]
      simp only [select_eq_ite]
      rfl

/-- A corner's keys: its last coordinate first. -/
def cornerKey (x0 : Vec Ideal S1x9x131072 .f32) (f : Fin 131072) (k : Fin 3) : Key :=
  (x0 (ix3 0 ⟨3 * k.val + 2, by omega⟩ f), x0 (ix3 0 ⟨3 * k.val + 1, by omega⟩ f), x0 (ix3 0 ⟨3 * k.val + 0, by omega⟩ f))

/-- At most: smaller, or the same. -/
def lexLe (p q : Key) : Prop := lexLt p q ∨ p = q

theorem lexLe_iff (p q : Key) : lexLe p q ↔ p.1 < q.1 ∨ (p.1 = q.1 ∧ (p.2.1 < q.2.1 ∨ (p.2.1 = q.2.1 ∧ (p.2.2 < q.2.2 ∨ p.2.2 = q.2.2)))) := by
  unfold lexLe lexLt
  rw [Prod.ext_iff, Prod.ext_iff]
  tauto

theorem lexLe_decide (a b c d e g : Prop) [Decidable a] [Decidable b] [Decidable c] [Decidable d] [Decidable e] [Decidable g] :
    (decide a = true ∨ decide b = true ∧ (decide c = true ∨ decide d = true ∧ (decide e = true ∨ decide g = true))) ↔ (a ∨ b ∧ (c ∨ d ∧ (e ∨ g))) := by
  simp only [decide_eq_true_eq]

theorem le01 (x0 : Vec Ideal S1x9x131072 .f32) (f : Fin 131072) : k1_pay12 x0 (ix1 f) = 1#1 ↔ lexLe (cornerKey x0 f 0) (cornerKey x0 f 1) := by
  rw [lexLe_iff]
  pointwise [k1_pay12, k1_pay2, k1_pay3, k1_pay4, k1_pay5, k1_pay6, k1_pay7, k1_pay8, k1_pay9, k1_pay10, k1_pay11]
  simp only [ofBool_one, andi_one, ori_one]
  exact lexLe_decide _ _ _ _ _ _

theorem le02 (x0 : Vec Ideal S1x9x131072 .f32) (f : Fin 131072) : k1_pay13 x0 (ix1 f) = 1#1 ↔ lexLe (cornerKey x0 f 0) (cornerKey x0 f 2) := by
  rw [lexLe_iff]
  pointwise [k1_pay13, k1_pay2, k1_pay3, k1_pay4, k1_pay5, k1_pay6, k1_pay7, k1_pay8, k1_pay9, k1_pay10, k1_pay11]
  simp only [ofBool_one, andi_one, ori_one]
  exact lexLe_decide _ _ _ _ _ _

theorem le12 (x0 : Vec Ideal S1x9x131072 .f32) (f : Fin 131072) : k1_pay14 x0 (ix1 f) = 1#1 ↔ lexLe (cornerKey x0 f 1) (cornerKey x0 f 2) := by
  rw [lexLe_iff]
  pointwise [k1_pay14, k1_pay2, k1_pay3, k1_pay4, k1_pay5, k1_pay6, k1_pay7, k1_pay8, k1_pay9, k1_pay10, k1_pay11]
  simp only [ofBool_one, andi_one, ori_one]
  exact lexLe_decide _ _ _ _ _ _

theorem before_of_lt (key : Fin 3 → Key) {i j : Fin 3} (h : i < j) : Before key i j ↔ lexLe (key i) (key j) := by
  unfold Before lexLe; simp [h]

theorem before_of_gt (key : Fin 3 → Key) {i j : Fin 3} (h : i < j) : Before key j i ↔ ¬lexLe (key i) (key j) := by
  unfold Before lexLe
  constructor
  · rintro (h' | ⟨-, h'⟩)
    · rintro (h2 | h2)
      · exact lexLt_irrefl _ (lexLt_trans h' h2)
      · exact lexLt_irrefl _ (h2 ▸ h')
    · exact absurd h' h.asymm
  · intro h'
    rcases lexLt_tri (key i) (key j) with h2 | h2 | h2
    · exact absurd (.inl h2) h'
    · exact absurd (.inr h2) h'
    · exact .inl h2

open Classical in
/-- A corner's rank, as the sum of what each corner before it adds. -/
theorem rank3 (key : Fin 3 → Key) (i : Fin 3) : rank key i
    = (if Before key 0 i then 1 else 0) + (if Before key 1 i then 1 else 0) + (if Before key 2 i then 1 else 0) := by
  unfold rank
  rw [Finset.card_filter, Fin.sum_univ_three]

theorem word_up (P Q A : Prop) [Decidable P] [Decidable Q] (h : P ↔ A) (h' : Q ↔ A) : (if P then 1#32 else 0#32) = BitVec.ofNat 32 (if Q then 1 else 0) := by
  by_cases a : A
  · rw [if_pos (h.mpr a), if_pos (h'.mpr a)]
  · rw [if_neg (fun p => a (h.mp p)), if_neg (fun p => a (h'.mp p))]

theorem word_down (P Q A : Prop) [Decidable P] [Decidable Q] (h : P ↔ A) (h' : Q ↔ ¬A) : (if P then 0#32 else 1#32) = BitVec.ofNat 32 (if Q then 1 else 0) := by
  by_cases a : A
  · rw [if_pos (h.mpr a), if_neg (fun p => h'.mp p a)]
  · rw [if_neg (fun p => a (h.mp p)), if_pos (h'.mpr a)]

open Classical in
theorem place0_eq (x0 : Vec Ideal S1x9x131072 .f32) (f : Fin 131072) : place0 x0 (ix1 f) = BitVec.ofNat 32 (rank (cornerKey x0 f) 0) := by
  have h : place0 x0 (ix1 f) = (if k1_pay12 x0 (ix1 f) = 1#1 then 0#32 else 1#32) + (if k1_pay13 x0 (ix1 f) = 1#1 then 0#32 else 1#32) := rfl
  rw [h, rank3]
  have a1 := le01 x0 f
  have a2 := le02 x0 f
  have b1 := before_of_gt (cornerKey x0 f) (show (0 : Fin 3) < 1 by decide)
  have b2 := before_of_gt (cornerKey x0 f) (show (0 : Fin 3) < 2 by decide)
  rw [if_neg (Before.irrefl (cornerKey x0 f) 0)]
  rw [word_down _ _ _ a1 b1, word_down _ _ _ a2 b2, ← BitVec.ofNat_add, Nat.zero_add]

open Classical in
theorem place1_eq (x0 : Vec Ideal S1x9x131072 .f32) (f : Fin 131072) : place1 x0 (ix1 f) = BitVec.ofNat 32 (rank (cornerKey x0 f) 1) := by
  have h : place1 x0 (ix1 f) = (if k1_pay12 x0 (ix1 f) = 1#1 then 1#32 else 0#32) + (if k1_pay14 x0 (ix1 f) = 1#1 then 0#32 else 1#32) := rfl
  rw [h, rank3]
  have a1 := le01 x0 f
  have a2 := le12 x0 f
  have b1 := before_of_lt (cornerKey x0 f) (show (0 : Fin 3) < 1 by decide)
  have b2 := before_of_gt (cornerKey x0 f) (show (1 : Fin 3) < 2 by decide)
  rw [if_neg (Before.irrefl (cornerKey x0 f) 1)]
  rw [word_up _ _ _ a1 b1, word_down _ _ _ a2 b2, ← BitVec.ofNat_add, Nat.add_zero]

open Classical in
theorem place2_eq (x0 : Vec Ideal S1x9x131072 .f32) (f : Fin 131072) : place2 x0 (ix1 f) = BitVec.ofNat 32 (rank (cornerKey x0 f) 2) := by
  have h : place2 x0 (ix1 f) = (if k1_pay13 x0 (ix1 f) = 1#1 then 1#32 else 0#32) + (if k1_pay14 x0 (ix1 f) = 1#1 then 1#32 else 0#32) := rfl
  rw [h, rank3]
  have a1 := le02 x0 f
  have a2 := le12 x0 f
  have b1 := before_of_lt (cornerKey x0 f) (show (0 : Fin 3) < 2 by decide)
  have b2 := before_of_lt (cornerKey x0 f) (show (1 : Fin 3) < 2 by decide)
  rw [if_neg (Before.irrefl (cornerKey x0 f) 2)]
  rw [word_up _ _ _ a1 b1, word_up _ _ _ a2 b2, ← BitVec.ofNat_add, Nat.add_zero]

/-- A corner's rank is `j` exactly for the corner the stable order puts at `j`. -/
theorem rank_word (key : Fin 3 → Key) (k j : Fin 3) : BitVec.ofNat 32 (rank key k) = BitVec.ofNat 32 j.val ↔ sorted key j = k := by
  have hk := rank_lt key k
  constructor
  · intro h
    have e := congrArg BitVec.toNat h
    rw [BitVec.toNat_ofNat, BitVec.toNat_ofNat, Nat.mod_eq_of_lt (by omega), Nat.mod_eq_of_lt (by omega)] at e
    have := sorted_rank key k
    rwa [show (⟨rank key k, rank_lt key k⟩ : Fin 3) = j from Fin.ext e] at this
  · rintro rfl
    rw [rank_sorted]

/-- The masked sum picks the corner the stable order puts at `j`. -/
theorem pick_eq (x0 : Vec Ideal S1x9x131072 .f32) (f : Fin 131072) (j : Fin 3) (a : Fin 3 → EReal) :
    pick x0 f (BitVec.ofNat 32 j.val) (a 0) (a 1) (a 2) = a (sorted (cornerKey x0 f) j) := by
  unfold pick
  rw [place0_eq, place1_eq, place2_eq]
  simp only [rank_word]
  generalize sorted (cornerKey x0 f) j = k
  fin_cases k <;> simp

/-- What the face kernel stores: the code of the coordinate of the corner the stable order puts there. -/
theorem out1_eq (x0 : Vec Ideal S1x9x131072 .f32) (j d : Fin 3) (f : Fin 131072) :
    out1 x0 (ix3 0 ⟨3 * j.val + d.val, by omega⟩ f) = code (x0 (ix3 0 ⟨3 * (sorted (cornerKey x0 f) j).val + d.val, by omega⟩ f)) := by
  rw [out1_row]
  exact congrArg code (pick_eq x0 f j fun k => x0 (ix3 0 ⟨3 * k.val + d.val, by omega⟩ f))

end Cert.KernelIdeal.Own

end
-- ==== Proof.Blocks.lean ====
/-
  The output arrays of the face kernel and of the reconstruction kernel: one block per batch.
-/
module

public import proofs.«01_k».proof.Proof.FaceTile
public import proofs.«01_k».proof.Proof.Recon3
public import proofs.«01_k».proof.Proof.RankFold2

@[expose] public section

set_option maxRecDepth 16384

noncomputable section

namespace Cert.KernelIdeal.Own

open Cert.KernelIdeal Cert.KernelIdeal.Gen Cert.Own Idealize.ShloMosaic Idealize.ShloMosaic.TcCoe Idealize.SL.Sem
open Idealize.ShloMosaic.Pipeline (Dat Cfg Window)

variable (V : (c : Dev nD) → Valuation τ sig (Elt Ideal)) (c : Dev nD)

theorem idx1 (t : Fin cfg1.N) : win1_0.index t = ![t.val, 0, 0] ∧ win1_1.index t = ![t.val, 0, 0] := by
  rcases fin_N1 t with h | h | h | h | h | h | h | h | h | h | h | h | h | h | h | h <;> subst h <;> decide +kernel

theorem idx3 (t : Fin cfg3.N) : win3_0.index t = ![t.val, 0, 0] ∧ win3_1.index t = ![t.val, 0, 0] := by
  rcases fin_N3 t with h | h | h | h | h | h | h | h | h | h | h | h | h | h | h | h <;> subst h <;> decide +kernel

/-- One batch of the array the face kernel reads. -/
def batch1 (b : Fin 16) : Vec Ideal S1x9x131072 .f32 := fun y => (V c main_v52 : Vec Ideal S16x9x131072 .f32) (ix3 b (y 1) (y 2))

/-- One batch of the array the reconstruction kernel reads. -/
def batch3 (b : Fin 16) : Vec Ideal S1x9216x128 .i32 := fun y => (V c main_v91 : Vec Ideal S16x9216x128 .i32) (ix3 b (y 1) (y 2))

theorem blk1_eq (t : Fin cfg1.N) (h : t.val < 16) : blk1 V c 0 t = batch1 V c ⟨t.val, h⟩ := by
  funext y
  blk_ext [blk1, batch1, idx1 t]

theorem blk3_eq (t : Fin cfg3.N) (h : t.val < 16) : blk3 V c 0 t = batch3 V c ⟨t.val, h⟩ := by
  funext y
  blk_ext [blk3, batch3, idx3 t]

/-- The face kernel's output array. -/
theorem arr1 : (dat1 V c).arrAt 1 cfg1.N = fun i : S16x9x131072.Idx => out1 (batch1 V c (i 0)) (ix3 0 (i 1) (i 2)) := by
  refine (dat1 V c).arrAt_eq_of_cover 1 _ (fun t hf => ?_) (fun i => ?_)
  · have ht : t.val < 16 := Nat.lt_of_lt_of_eq t.isLt N_1
    funext y
    have e : (dat1 V c).after 1 t = out1 (batch1 V c ⟨t.val, ht⟩) := (after1_1 V c t).trans (congrArg out1 (blk1_eq V c t ht))
    show (dat1 V c).after 1 t ((cfg1.win 1).xinj (grid1.coords t) y) = _
    rw [e]
    have hy : (cfg1.win 1).xinj (grid1.coords t) y = ix3 0 (y 1) (y 2) := by
      funext a
      match a with
      | ⟨0, _⟩ => exact Fin.ext (by have : (y 0).val < 1 := (y 0).isLt; show (y 0).val = 0; omega)
      | ⟨1, _⟩ => rfl
      | ⟨2, _⟩ => rfl
    rw [hy]
    have h1 := (idx1 t).2
    have hb0 : (((cfg1.win 1).blk t).view.emb y 0).val = win1_1.index t (0 : Fin 3) * 1 + 1 * (y 0).val := rfl
    have hb1 : (((cfg1.win 1).blk t).view.emb y 1).val = win1_1.index t (1 : Fin 3) * 9 + 1 * (y 1).val := rfl
    have hb2 : (((cfg1.win 1).blk t).view.emb y 2).val = win1_1.index t (2 : Fin 3) * 131072 + 1 * (y 2).val := rfl
    have e0 : (⟨t.val, ht⟩ : Fin 16) = ((cfg1.win 1).blk t).view.emb y 0 := Fin.ext (by
      rw [hb0, h1]; have : (y 0).val < 1 := (y 0).isLt
      show t.val = t.val * 1 + 1 * (y 0).val; omega)
    have e1 : (y 1 : Fin 9) = ((cfg1.win 1).blk t).view.emb y 1 := Fin.ext (by
      rw [hb1, h1]; show (y 1).val = 0 * 9 + 1 * (y 1).val; omega)
    have e2 : (y 2 : Fin 131072) = ((cfg1.win 1).blk t).view.emb y 2 := Fin.ext (by
      rw [hb2, h1]; show (y 2).val = 0 * 131072 + 1 * (y 2).val; omega)
    rw [e0, e1, e2]
    rfl
  · have h0 : (i 0).val < 16 := (i 0).isLt
    have h1 : (i 1).val < 9 := (i 1).isLt
    have h2 : (i 2).val < 131072 := (i 2).isLt
    have hN : cfg1.N = 16 := N_1
    obtain ⟨t, ht⟩ : ∃ t : Fin cfg1.N, t.val = (i 0).val := ⟨⟨_, by omega⟩, rfl⟩
    refine ⟨t, flush1_1 t, ?_⟩
    have h6 := (idx1 t).2
    rw [ht] at h6
    mem_blk [h6]
    omega

/-- The reconstruction kernel's output array. -/
theorem arr3 : (dat3 V c).arrAt 1 cfg3.N = fun i : S16x9216x128.Idx => out3 (batch3 V c (i 0)) (ix3 0 (i 1) (i 2)) := by
  refine (dat3 V c).arrAt_eq_of_cover 1 _ (fun t hf => ?_) (fun i => ?_)
  · have ht : t.val < 16 := Nat.lt_of_lt_of_eq t.isLt N_3
    funext y
    have e : (dat3 V c).after 1 t = out3 (batch3 V c ⟨t.val, ht⟩) := (after3_1 V c t).trans (congrArg out3 (blk3_eq V c t ht))
    show (dat3 V c).after 1 t ((cfg3.win 1).xinj (grid3.coords t) y) = _
    rw [e]
    have hy : (cfg3.win 1).xinj (grid3.coords t) y = ix3 0 (y 1) (y 2) := by
      funext a
      match a with
      | ⟨0, _⟩ => exact Fin.ext (by have : (y 0).val < 1 := (y 0).isLt; show (y 0).val = 0; omega)
      | ⟨1, _⟩ => rfl
      | ⟨2, _⟩ => rfl
    rw [hy]
    have h1 := (idx3 t).2
    have hb0 : (((cfg3.win 1).blk t).view.emb y 0).val = win3_1.index t (0 : Fin 3) * 1 + 1 * (y 0).val := rfl
    have hb1 : (((cfg3.win 1).blk t).view.emb y 1).val = win3_1.index t (1 : Fin 3) * 9216 + 1 * (y 1).val := rfl
    have hb2 : (((cfg3.win 1).blk t).view.emb y 2).val = win3_1.index t (2 : Fin 3) * 128 + 1 * (y 2).val := rfl
    have e0 : (⟨t.val, ht⟩ : Fin 16) = ((cfg3.win 1).blk t).view.emb y 0 := Fin.ext (by
      rw [hb0, h1]; have : (y 0).val < 1 := (y 0).isLt
      show t.val = t.val * 1 + 1 * (y 0).val; omega)
    have e1 : (y 1 : Fin 9216) = ((cfg3.win 1).blk t).view.emb y 1 := Fin.ext (by
      rw [hb1, h1]; show (y 1).val = 0 * 9216 + 1 * (y 1).val; omega)
    have e2 : (y 2 : Fin 128) = ((cfg3.win 1).blk t).view.emb y 2 := Fin.ext (by
      rw [hb2, h1]; show (y 2).val = 0 * 128 + 1 * (y 2).val; omega)
    rw [e0, e1, e2]
    rfl
  · have h0 : (i 0).val < 16 := (i 0).isLt
    have h1 : (i 1).val < 9216 := (i 1).isLt
    have h2 : (i 2).val < 128 := (i 2).isLt
    have hN : cfg3.N = 16 := N_3
    obtain ⟨t, ht⟩ : ∃ t : Fin cfg3.N, t.val = (i 0).val := ⟨⟨_, by omega⟩, rfl⟩
    refine ⟨t, flush3_1 t, ?_⟩
    have h6 := (idx3 t).2
    rw [ht] at h6
    mem_blk [h6]
    omega

end Cert.KernelIdeal.Own

end
-- ==== Proof.Codes.lean ====
/-
  A coordinate's code: converting a clipped value and clipping a converted value give the same word.
-/
module

public import proofs.«01_k».proof.Proof.FaceTile

@[expose] public section

set_option maxRecDepth 16384

noncomputable section

namespace Cert.KernelIdeal.Own

open Idealize.ShloMosaic

/-- A word made of a whole number in range reads back as that number. -/
theorem toInt_word (t : ℤ) (h0 : -2147483648 ≤ t) (h1 : t ≤ 2147483647) : (BitVec.ofInt 32 t).toInt = t := by
  rw [BitVec.toInt_ofInt]
  exact Int.bmod_eq_of_le (by omega) (by omega)

/-- Clipping a whole number's word to 0 … 127 is the word of the clipped number. -/
theorem clip_word (t : ℤ) (h0 : -2147483648 ≤ t) (h1 : t ≤ 2147483647) :
    IntOp.minsi 127#32 (IntOp.maxsi 0#32 (BitVec.ofInt 32 t)) = BitVec.ofInt 32 (min 127 (max 0 t)) := by
  have hm : IntOp.maxsi 0#32 (BitVec.ofInt 32 t) = BitVec.ofInt 32 (max 0 t) := by
    unfold IntOp.maxsi
    rw [BitVec.slt, toInt_word t h0 h1, show (0#32 : BitVec 32).toInt = 0 from by decide]
    by_cases h : t < 0
    · rw [decide_eq_true h, if_pos rfl, max_eq_left h.le]; rfl
    · rw [decide_eq_false h, if_neg Bool.false_ne_true, max_eq_right (not_lt.mp h)]
  rw [hm]
  unfold IntOp.minsi
  rw [BitVec.slt, toInt_word (max 0 t) (by omega) (by omega), show (127#32 : BitVec 32).toInt = 127 from by decide]
  by_cases h : (127 : ℤ) < max 0 t
  · rw [decide_eq_true h, if_pos rfl, min_eq_left h.le]; rfl
  · rw [decide_eq_false h, if_neg Bool.false_ne_true, min_eq_right (not_lt.mp h)]

/-- A cut number stays in the word's range. -/
theorem cut_range (z : EReal) : -2147483648 ≤ Ideal.toIntClamped (-2147483648) 2147483647 z ∧ Ideal.toIntClamped (-2147483648) 2147483647 z ≤ 2147483647 := by
  induction z with
  | bot => exact ⟨le_refl _, by show (-2147483648 : ℤ) ≤ 2147483647; omega⟩
  | top => exact ⟨by show (-2147483648 : ℤ) ≤ 2147483647; omega, le_refl _⟩
  | coe r =>
    show -2147483648 ≤ max (-2147483648) (min 2147483647 (if 0 ≤ r then ⌊r⌋ else ⌈r⌉)) ∧ max (-2147483648) (min 2147483647 (if 0 ≤ r then ⌊r⌋ else ⌈r⌉)) ≤ 2147483647
    omega

/-- Clipping before cutting to a whole number, or after. -/
theorem clip_cut (z : EReal) :
    Ideal.toIntClamped (-2147483648) 2147483647 (min ((127 : ℝ) : EReal) (max ((0 : ℝ) : EReal) z))
      = min 127 (max 0 (Ideal.toIntClamped (-2147483648) 2147483647 z)) := by
  induction z with
  | bot =>
    rw [max_eq_left bot_le, min_eq_right (by exact_mod_cast (by norm_num : (0 : ℝ) ≤ 127))]
    show max _ (min _ (if (0 : ℝ) ≤ 0 then ⌊(0 : ℝ)⌋ else ⌈(0 : ℝ)⌉)) = min 127 (max 0 (-2147483648))
    simp
  | top =>
    rw [max_eq_right le_top, min_eq_left le_top]
    show max _ (min _ (if (0 : ℝ) ≤ 127 then ⌊(127 : ℝ)⌋ else ⌈(127 : ℝ)⌉)) = min 127 (max 0 2147483647)
    rw [if_pos (by norm_num), show ⌊(127 : ℝ)⌋ = 127 from by norm_num]
    rfl
  | coe r =>
    rw [← EReal.coe_strictMono.monotone.map_max, ← EReal.coe_strictMono.monotone.map_min]
    show max _ (min _ (if (0 : ℝ) ≤ min 127 (max 0 r) then ⌊min 127 (max 0 r)⌋ else ⌈min 127 (max 0 r)⌉)) = min 127 (max 0 (max _ (min _ (if 0 ≤ r then ⌊r⌋ else ⌈r⌉))))
    rw [if_pos (le_min (by norm_num) (le_max_left _ _))]
    rcases le_or_gt 0 r with h | h
    · rw [if_pos h, max_eq_right h]
      have hf : 0 ≤ ⌊r⌋ := Int.floor_nonneg.mpr h
      rcases le_or_gt 127 r with g | g
      · rw [min_eq_left g, show ⌊(127 : ℝ)⌋ = 127 from by norm_num]
        have : 127 ≤ ⌊r⌋ := Int.le_floor.mpr (by exact_mod_cast g)
        omega
      · rw [min_eq_right g.le]
        have : ⌊r⌋ < 127 := Int.floor_lt.mpr (by exact_mod_cast g)
        omega
    · rw [if_neg (not_le.mpr h), max_eq_left h.le, min_eq_right (by norm_num : (0 : ℝ) ≤ 127), Int.floor_zero]
      have : ⌈r⌉ ≤ 0 := Int.ceil_le.mpr (by exact_mod_cast h.le)
      omega

/-- Clipping a converted value is converting the clipped value. -/
theorem clip_convert (z : EReal) :
    IntOp.minsi 127#32 (IntOp.maxsi 0#32 (Ideal.fptosi 32 z)) = Ideal.fptosi 32 (min ((127 : ℝ) : EReal) (max ((0 : ℝ) : EReal) z)) := by
  have hr := cut_range z
  show IntOp.minsi 127#32 (IntOp.maxsi 0#32 (BitVec.ofInt 32 (Ideal.toIntClamped (-2147483648) 2147483647 z)))
    = BitVec.ofInt 32 (Ideal.toIntClamped (-2147483648) 2147483647 (min ((127 : ℝ) : EReal) (max ((0 : ℝ) : EReal) z)))
  rw [clip_word _ hr.1 hr.2, clip_cut]

/-- A clipped word is never the word of minus one. -/
theorem clip_ne (z : EReal) : IntOp.minsi 127#32 (IntOp.maxsi 0#32 (Ideal.fptosi 32 z)) ≠ 4294967295#32 := by
  have hr := cut_range z
  intro h
  have e : IntOp.minsi 127#32 (IntOp.maxsi 0#32 (BitVec.ofInt 32 (Ideal.toIntClamped (-2147483648) 2147483647 z))) = 4294967295#32 := h
  rw [clip_word _ hr.1 hr.2] at e
  have e' := congrArg BitVec.toInt e
  rw [toInt_word _ (by omega) (by omega), show (4294967295#32 : BitVec 32).toInt = -1 from by decide] at e'
  omega

end Cert.KernelIdeal.Own
-- ==== Proof.RefVals.lean ====
/-
  The reference's values at an index, where the faces' vertex numbers are in range.
-/
module

public import proofs.«01_k».proof.Proof.SortRef
public import proofs.«01_k».proof.Proof.Indexing
public import proofs.«01_k».proof.Proof.RankCount
public import proofs.«01_k».proof.Proof.Codes
public import Idealize.ShloMosaic.Lib.ReduceAll

@[expose] public section

set_option maxRecDepth 16384

noncomputable section

namespace Cert.ReferenceIdeal.Own

open Cert.ReferenceIdeal Cert.ReferenceIdeal.Gen Cert.ReferenceIdeal.Value Cert.Own Idealize.ShloMosaic Idealize.ShloMosaic.TcCoe Idealize.SL.Sem
open Cert.KernelIdeal.Own (toNat_small code clip_convert clip_ne)

/-- A position's word is kept by the wrapping of negatives. -/
theorem wrap_word (w a : BitVec 32) (v : ℕ) (h : w = BitVec.ofNat 32 v) (hv : v < 2147483648) :
    Scalar.select (IntOp.cmpi .slt w 0#32) a w = BitVec.ofNat 32 v := by
  rw [← h]
  refine Routing.wrap_of_lt w a ?_
  rw [h, toNat_small v (by omega)]
  omega

variable (V0 : Valuation τ sig (Elt Ideal))

/-- The faces' vertex numbers. -/
abbrev faceWords : IVec S16x131072x3 32 := V0 (Proc.devRef .tc main_arg1)

/-- The sorted vertices. -/
theorem v25_at (b : Fin 16) (k : Fin 65536) (d : Fin 3) :
    res_main_v25 V0 (ix3 b k d) = res_main_v11 V0 (ix3 b (sorted (vertexKey (res_main_v11 V0) b) k) d) := by
  unfold res_main_v25
  refine gather_vertices _ _ b k d _ ?_
  refine Eq.trans ?_ (wrap_word (res_main_v18 V0 (ix2 b k)) (IntOp.addi (res_main_v18 V0 (ix2 b k)) 65536#32) _ (v18_at V0 b k) ?_)
  · generalize res_main_v18 V0 = x
    pointwise []
  · have := (sorted (vertexKey (res_main_v11 V0) b) k).isLt
    omega

variable (hA : ∀ b f j, (faceWords V0 (ix3 b f j)).toNat < 65536)

/-- The vertex a face's corner names. -/
def vert (b : Fin 16) (f : Fin 131072) (j : Fin 3) : Fin 65536 := ⟨(faceWords V0 (ix3 b f j)).toNat, hA b f j⟩

theorem word_vert (b : Fin 16) (f : Fin 131072) (j : Fin 3) : faceWords V0 (ix3 b f j) = BitVec.ofNat 32 (vert V0 hA b f j).val :=
  ((BitVec.ofNat_toNat 32 _).trans (BitVec.setWidth_eq _)).symm

/-- The corners of a face as found. -/
theorem v32_at (b : Fin 16) (f : Fin 131072) (j d : Fin 3) :
    res_main_v32 V0 (ix4 b f j d) = res_main_v25 V0 (ix3 b (vert V0 hA b f j) d) := by
  unfold res_main_v32
  refine gather_corners _ _ b f j d _ ?_
  refine Eq.trans ?_ (wrap_word (faceWords V0 (ix3 b f j)) (IntOp.addi (faceWords V0 (ix3 b f j)) 65536#32) _ (word_vert V0 hA b f j) ?_)
  · show _ = Scalar.select (IntOp.cmpi .slt ((V0 (Proc.devRef .tc main_arg1) : IVec S16x131072x3 32) (ix3 b f j)) 0#32) (IntOp.addi ((V0 (Proc.devRef .tc main_arg1) : IVec S16x131072x3 32) (ix3 b f j)) 65536#32) ((V0 (Proc.devRef .tc main_arg1) : IVec S16x131072x3 32) (ix3 b f j))
    generalize (V0 (Proc.devRef .tc main_arg1) : IVec S16x131072x3 32) = x
    pointwise []
  · have := (vert V0 hA b f j).isLt
    omega

/-- The order of a face's corners, as words. -/
theorem call2_at (b : Fin 16) (f : Fin 131072) (j : Fin 3) :
    res_main_call2_v5 V0 (ix4 b f j 0) = BitVec.ofNat 32 (sorted (vertKey (res_main_v32 V0) b f) j).val := by
  refine Eq.trans ?_ (wrap_word (res_main_v39 V0 (ix3 b f j)) (IntOp.addi (res_main_v39 V0 (ix3 b f j)) 3#32) _ (v39_at V0 b f j) ?_)
  · unfold res_main_call2_v5
    generalize res_main_v39 V0 = x
    pointwise []
  · have := (sorted (vertKey (res_main_v32 V0) b f) j).isLt
    omega

/-- They all pass the range test. -/
theorem call2_ok (i : S16x131072x3x1.Idx) :
    andi (cmpi .sge (res_main_call2_v5 V0) (broadcastInDim S16x131072x3x1 ![] bcast_S_S16x131072x3x1 (constantI S_ 32 0#32)))
      (cmpi .sle (res_main_call2_v5 V0) (broadcastInDim S16x131072x3x1 ![0, 1, 2, 3] bcast_S1x1x1x1_S16x131072x3x1_0_1_2_3
        (broadcastInDim S1x1x1x1 ![3] bcast_S1_S1x1x1x1_3 (constantI S1 32 2#32)))) i = 1#1 := by
  have h : i = ix4 (i 0) (i 1) (i 2) 0 := by
    funext a
    match a with
    | ⟨0, _⟩ => rfl
    | ⟨1, _⟩ => rfl
    | ⟨2, _⟩ => rfl
    | ⟨3, _⟩ => exact Subsingleton.elim (α := Fin 1) _ _
  have key : ∀ v : Fin 3, IntOp.andi (IntOp.cmpi .sge (BitVec.ofNat 32 v.val) 0#32) (IntOp.cmpi .sle (BitVec.ofNat 32 v.val) 2#32) = 1#1 := by decide
  have e : res_main_call2_v5 V0 i = BitVec.ofNat 32 (sorted (vertKey (res_main_v32 V0) (i 0) (i 1)) (i 2)).val :=
    (congrArg (res_main_call2_v5 V0) h).trans (call2_at V0 (i 0) (i 1) (i 2))
  exact (congrArg (fun w : BitVec 32 => IntOp.andi (IntOp.cmpi .sge w 0#32) (IntOp.cmpi .sle w 2#32)) e).trans (key _)

/-- The face a place of the sorted list holds. -/
abbrev faceAt (b : Fin 16) (k : Fin 131072) : Fin 131072 := sorted (faceKey (res_main_v43 V0) b) k
/-- The corner a place of the sorted face holds. -/
abbrev cornerAt (b : Fin 16) (k : Fin 131072) (j : Fin 3) : Fin 3 := sorted (vertKey (res_main_v32 V0) b (faceAt V0 b k)) j

/-- The faces' vertex numbers after both sorts. -/
theorem v57_at (b : Fin 16) (k : Fin 131072) (j : Fin 3) :
    res_main_v57 V0 (ix3 b k j) = faceWords V0 (ix3 b (faceAt V0 b k) (cornerAt V0 b k j)) := by
  unfold res_main_v57
  refine (gather_faces _ _ b k j (faceAt V0 b k) ?_).trans ?_
  · refine Eq.trans ?_ (wrap_word (res_main_v50 V0 (ix2 b k)) (IntOp.addi (res_main_v50 V0 (ix2 b k)) 131072#32) _ (v50_at V0 b k) ?_)
    · generalize res_main_v50 V0 = x
      pointwise []
    · have := (faceAt V0 b k).isLt
      omega
  · refine Eq.trans ?_ (gather_along (V0 (Proc.devRef .tc main_arg1) : IVec S16x131072x3 32) (res_main_call2_v5 V0) b (faceAt V0 b k) j (cornerAt V0 b k j) (call2_at V0 b _ j))
    show Scalar.select (Host.reduce IntOp.andi _ _ _ _ _) _ _ = _
    rw [Host.reduce_andi_one _ _ _ _ _ rfl (call2_ok V0)]
    rfl

/-- A selection whose condition always holds. -/
theorem select_ones {s : Shape} {α : Type} (c : IVec s 1) (x y : s.Idx → α) (h : ∀ i, c i = 1#1) : select c x y = x := by
  funext i
  show Scalar.select (c i) (x i) (y i) = x i
  rw [h]
  rfl

/-- A broadcast of ones. -/
theorem bcast_ones {s t : Shape} (dims : Fin s.rank → Fin t.rank) (h : s.BroadcastsInDim t dims) (c : IVec s 1) (hc : ∀ i, c i = 1#1) (i : t.Idx) :
    broadcastInDim t dims h c i = 1#1 := hc _

include hA

/-- No face is masked out. -/
theorem v60_at (i : S16x131072.Idx) : res_main_v60 V0 i = 1#1 := by
  unfold res_main_v60
  refine Host.reduce_andi_one _ _ _ _ _ rfl fun q => ?_
  have hq : q = ix3 (q 0) (q 1) (q 2) := by
    funext a
    match a with
    | ⟨0, _⟩ => rfl
    | ⟨1, _⟩ => rfl
    | ⟨2, _⟩ => rfl
  have key : ∀ w : BitVec 32, w.toNat < 65536 → IntOp.cmpi .ne w 4294967295#32 = 1#1 := by
    intro w h
    have hw : w ≠ 4294967295#32 := by rintro rfl; exact absurd h (by decide)
    show BitVec.ofBool (w != 4294967295#32) = 1#1
    rw [bne_iff_ne.mpr hw]
    rfl
  have e : res_main_v57 V0 q = faceWords V0 (ix3 (q 0) (faceAt V0 (q 0) (q 1)) (cornerAt V0 (q 0) (q 1) (q 2))) :=
    (congrArg (res_main_v57 V0) hq).trans (v57_at V0 (q 0) (q 1) (q 2))
  exact (congrArg (fun w : BitVec 32 => IntOp.cmpi .ne w 4294967295#32) e).trans (key _ (hA _ _ _))

theorem v62_eq : res_main_v62 V0 = res_main_v57 V0 := by
  unfold res_main_v62
  exact select_ones _ _ _ (bcast_ones _ _ _ (bcast_ones _ _ _ (v60_at V0 hA)))

omit hA in
/-- The code of a coordinate as the reference takes it: rounded, clipped, converted. -/
theorem code_ref (x : EReal) :
    Ideal.fptosi 32 (min (((127#32 : BitVec 32).toInt : ℝ) : EReal) (max (((0#32 : BitVec 32).toInt : ℝ) : EReal) (Ideal.liftRound Ideal.roundHalfEven
      (Ideal.div (x - Ideal.ofBits .f32 0xBF800000#32) (Ideal.ofBits .f32 0x40000000#32) * Ideal.ofBits .f32 0x43000000#32 - Ideal.ofBits .f32 0x3F000000#32)))) = code x := by
  unfold code
  rw [clip_convert, show (127#32 : BitVec 32).toInt = 127 from by decide, show (0#32 : BitVec 32).toInt = 0 from by decide]
  norm_num

omit hA in
/-- The index words that take the sorted corners' vertices. -/
def cornerWords (w : IVec S16x131072x3 32) : IVec S16x131072x3x1 32 :=
  broadcastInDim S16x131072x3x1 ![0, 1, 2] bcast_S16x131072x3_S16x131072x3x1_0_1_2 (select (cmpi .slt w (broadcastInDim S16x131072x3 ![] bcast_S_S16x131072x3 (constantI S_ 32 0#32)))
    (addi w (broadcastInDim S16x131072x3 ![] bcast_S_S16x131072x3 (constantI S_ 32 65536#32))) w)

omit hA in
/-- A word in range is kept. -/
theorem cornerWords_at (w : IVec S16x131072x3 32) (b : Fin 16) (k : Fin 131072) (j : Fin 3) (v : Fin 65536) (h : w (ix3 b k j) = BitVec.ofNat 32 v.val) :
    cornerWords w (ix4 b k j 0) = BitVec.ofNat 32 v.val := by
  refine Eq.trans ?_ (wrap_word (w (ix3 b k j)) (IntOp.addi (w (ix3 b k j)) 65536#32) _ h ?_)
  · pointwise [cornerWords]
  · have := v.isLt
    omega

omit hA in
/-- The codes of the vertices that index words take out of a table. -/
def codesOf (x : FVec Ideal S16x65536x3 .f32) (idx : IVec S16x131072x3x1 32) : IVec S16x131072x3x3 32 :=
  fptosi 32 (minimumf (broadcastInDim S16x131072x3x3 ![] bcast_S_S16x131072x3x3 (sitofp .f32 (constantI S_ 32 127#32))) (maximumf (broadcastInDim S16x131072x3x3 ![] bcast_S_S16x131072x3x3 (sitofp .f32 (constantI S_ 32 0#32)))
    (Host.roundeven (subf (mulf (Host.divf (subf (Host.gather gather_S16x65536x3_S16x131072x3x1_S16x131072x3x3_3_1_0_0_1_3_113 x idx)
      (broadcastInDim S16x131072x3x3 ![] bcast_S_S16x131072x3x3 (constant S_ .f32 0xBF800000#32))) (broadcastInDim S16x131072x3x3 ![] bcast_S_S16x131072x3x3 (constant S_ .f32 0x40000000#32)))
      (broadcastInDim S16x131072x3x3 ![] bcast_S_S16x131072x3x3 (constant S_ .f32 0x43000000#32))) (broadcastInDim S16x131072x3x3 ![] bcast_S_S16x131072x3x3 (constant S_ .f32 0x3F000000#32))))))

omit hA in
theorem codesOf_at (x : FVec Ideal S16x65536x3 .f32) (idx : IVec S16x131072x3x1 32) (b : Fin 16) (k : Fin 131072) (j d : Fin 3) (v : Fin 65536)
    (h : idx (ix4 b k j 0) = BitVec.ofNat 32 v.val) : codesOf x idx (ix4 b k j d) = code (x (ix3 b v d)) := by
  rw [← gather_corners x idx b k j d v h, ← code_ref]
  rfl

omit hA in
/-- The sorted corners' codes before the mask. -/
def codes : IVec S16x131072x3x3 32 := codesOf (res_main_v25 V0) (cornerWords (res_main_v62 V0))

/-- Each is the code of the coordinate of the corner the two sorts put there. -/
theorem codes_at (b : Fin 16) (k : Fin 131072) (j d : Fin 3) :
    codes V0 (ix4 b k j d) = code (res_main_v32 V0 (ix4 b (faceAt V0 b k) (cornerAt V0 b k j) d)) := by
  rw [v32_at V0 hA]
  unfold codes
  rw [v62_eq V0 hA]
  exact codesOf_at _ _ b k j d _ (cornerWords_at _ b k j _ ((v57_at V0 b k j).trans (word_vert V0 hA b _ _)))

/-- The mask changes nothing. -/
theorem v82_eq : res_main_v82 V0 = codes V0 := by
  unfold res_main_v82
  exact select_ones _ _ _ (bcast_ones _ _ _ (bcast_ones _ _ _ (v60_at V0 hA)))

end Cert.ReferenceIdeal.Own
-- ==== Proof.Chain.lean ====
/-
  The kernel program's stretches and regions put together: what each leaves, in the reference's terms.
-/
module

public import proofs.«01_k».proof.Proof.HostVals
public import proofs.«01_k».proof.Proof.RankFold0
public import proofs.«01_k».proof.Proof.RankFold2
public import proofs.«01_k».proof.Proof.FaceTile
public import proofs.«01_k».proof.Proof.Blocks
public import proofs.«01_k».proof.Proof.RefVals

@[expose] public section

set_option maxRecDepth 16384

noncomputable section

namespace Cert.KernelIdeal.Own

open Cert.KernelIdeal Cert.KernelIdeal.Gen Idealize.ShloMosaic Idealize.ShloMosaic.TcCoe Idealize.SL.Sem Cert.Own
open Cert.ReferenceIdeal.Value (res_main_v11 res_main_v25 res_main_v32 res_main_v43 res_main_v82)
open Cert.ReferenceIdeal.Own (vertexKey faceKey vertKey v25_at codes codes_at faceAt cornerAt)

/-- Every index of rank three is written out by its coordinates. -/
theorem eta3 {n0 n1 n2 : ℕ} (i : Shape.Idx ⟨3, ![n0, n1, n2]⟩) : i = ix3 (i 0) (i 1) (i 2) := by
  funext a
  match a with
  | ⟨0, _⟩ => rfl
  | ⟨1, _⟩ => rfl
  | ⟨2, _⟩ => rfl

/-- And of rank four. -/
theorem eta4 {n0 n1 n2 n3 : ℕ} (i : Shape.Idx ⟨4, ![n0, n1, n2, n3]⟩) : i = ix4 (i 0) (i 1) (i 2) (i 3) := by
  funext a
  match a with
  | ⟨0, _⟩ => rfl
  | ⟨1, _⟩ => rfl
  | ⟨2, _⟩ => rfl
  | ⟨3, _⟩ => rfl

/-- The place of coordinate `d` of corner `j` among a face's nine numbers. -/
abbrev nine (j d : Fin 3) : Fin 9 := ⟨3 * j.val + d.val, by omega⟩

/-- The two layouts of a face's nine numbers have the same row-major positions. -/
theorem nine_pos (b : Fin 16) (f : Fin 131072) (j d : Fin 3) :
    (S16x131072x3x3.rowMajor (ix4 b f j d)).val = (S16x131072x9.rowMajor (ix3 b f (nine j d))).val := by
  rw [rowMajor_val4 (ix4 b f j d) 1179648 9 3 rfl rfl rfl, rowMajor_val3 (ix3 b f (nine j d)) 1179648 9 rfl rfl]
  show b.val * 1179648 + f.val * 9 + j.val * 3 + d.val = b.val * 1179648 + f.val * 9 + (3 * j.val + d.val)
  omega

/-- Nine numbers a face, read out of three by three. -/
theorem cast_nine {α : Type} (x : S16x131072x3x3.Idx → α) (h : S16x131072x3x3.ShapeCasts S16x131072x9) (b : Fin 16) (f : Fin 131072) (j d : Fin 3) :
    shapeCast S16x131072x9 x h (ix3 b f (nine j d)) = x (ix4 b f j d) :=
  shapeCast_apply x h _ _ (nine_pos b f j d)

/-- And three by three out of nine. -/
theorem cast_square {α : Type} (x : S16x131072x9.Idx → α) (h : S16x131072x9.ShapeCasts S16x131072x3x3) (b : Fin 16) (f : Fin 131072) (j d : Fin 3) :
    shapeCast S16x131072x3x3 x h (ix4 b f j d) = x (ix3 b f (nine j d)) :=
  shapeCast_apply x h _ _ (nine_pos b f j d).symm

/-- The transpose that makes each face's numbers a column. -/
theorem turn_in {α : Type} (x : S16x131072x9.Idx → α) (h : S16x131072x9.Transposes [0, 2, 1] S16x9x131072) (b : Fin 16) (r : Fin 9) (f : Fin 131072) :
    transpose S16x9x131072 [0, 2, 1] x h (ix3 b r f) = x (ix3 b f r) := by
  pointwise []

/-- The transpose that makes each face's numbers a row again. -/
theorem turn_out {α : Type} (x : S16x9x131072.Idx → α) (h : S16x9x131072.Transposes [0, 2, 1] S16x131072x9) (b : Fin 16) (r : Fin 9) (f : Fin 131072) :
    transpose S16x131072x9 [0, 2, 1] x h (ix3 b f r) = x (ix3 b r f) := by
  pointwise []

/-- Rows of nine numbers scattered to their ranks. -/
theorem place_faces (key : Fin 16 → Fin 131072 → Key) (x0 : IVec S16x131072x9 32) (r : IVec S16x131072x1 32) (u : IVec S16x9x131072 32)
    (hr : r = fun i : S16x131072x1.Idx => BitVec.ofNat 32 (rank (key (i 0)) (i 1))) (b : Fin 16) (k : Fin 131072) (q : Fin 9) :
    Host.scatter scatter_S16x131072x9_S16x131072x2_S16x131072x9_2_01_01_2 (fun _ b => b) x0 (facePlaces r)
      (transpose S16x131072x9 [0, 2, 1] u transposes_S16x9x131072_S16x131072x9_0_2_1) (ix3 b k q) = u (ix3 b q (sorted (key b) k)) :=
  (scatter_faces key x0 _ (facePlaces r) (fun b i => facePlaces_0 r b i)
    (fun b i => facePlaces_1 r b i _ (rank_lt _ _) (congrFun hr (ix3 b i 0))) b k q).trans (turn_out u _ b q _)

section Stretches
variable (V : Valuation τ sig (Elt Ideal)) (R : Valuation Cert.ReferenceIdeal.τ Cert.ReferenceIdeal.sig (Elt Ideal))

/-- Scattering the vertices to their ranks gives the reference's sorted vertices. -/
theorem sorted_vertices (h11 : V (Proc.devRef .tc main_v11) = res_main_v11 R)
    (h24 : V (Proc.devRef .tc main_v24) = fun i : S16x65536x1.Idx => BitVec.ofNat 32 (rank (vertexKey (res_main_v11 R) (i 0)) (i 1))) :
    StableHlo.after hostOps1 V (Proc.devRef .tc main_v43) = res_main_v25 R := by
  have key : ∀ (b : Fin 16) (k : Fin 65536) (d : Fin 3), (StableHlo.after hostOps1 V (Proc.devRef .tc main_v43) : FVec Ideal S16x65536x3 .f32) (ix3 b k d) = res_main_v25 R (ix3 b k d) := by
    intro b k d
    rw [v25_at, ops1_v43, h11]
    refine scatter_vertices (vertexKey (res_main_v11 R)) _ _ _ (fun b i => vertexPlaces_0 _ b i) (fun b i => vertexPlaces_1 _ b i _ (rank_lt _ _) ?_) b k d
    rw [h24]
    rfl
  funext i
  exact (congrArg (StableHlo.after hostOps1 V (Proc.devRef .tc main_v43) : FVec Ideal S16x65536x3 .f32) (eta3 i)).trans
    ((key _ _ _).trans (congrArg (res_main_v25 R) (eta3 i)).symm)

/-- The faces' corners are the reference's. -/
theorem face_corners (h11 : V (Proc.devRef .tc main_v11) = res_main_v11 R)
    (h24 : V (Proc.devRef .tc main_v24) = fun i : S16x65536x1.Idx => BitVec.ofNat 32 (rank (vertexKey (res_main_v11 R) (i 0)) (i 1)))
    (h1 : V (Proc.devRef .tc main_arg1) = R (Proc.devRef .tc Cert.ReferenceIdeal.main_arg1)) :
    StableHlo.after hostOps1 V (Proc.devRef .tc main_v50) = res_main_v32 R := by
  rw [ops1_v50, sorted_vertices V R h11 h24, h1]
  rfl

/-- The rows the face region reads hold the corners' coordinates. -/
theorem face_rows (b : Fin 16) (f : Fin 131072) (j d : Fin 3) :
    (StableHlo.after hostOps1 V (Proc.devRef .tc main_v52) : FVec Ideal S16x9x131072 .f32) (ix3 b (nine j d) f)
      = (StableHlo.after hostOps1 V (Proc.devRef .tc main_v50) : FVec Ideal S16x131072x3x3 .f32) (ix4 b f j d) :=
  (congrFun (ops1_v52 V) (ix3 b (nine j d) f)).trans ((turn_in _ _ b (nine j d) f).trans (cast_nine _ _ b f j d))

/-- Scattering the faces to their ranks takes each place's face. -/
theorem sorted_faces (key : Fin 16 → Fin 131072 → Key)
    (h69 : V (Proc.devRef .tc main_v69) = fun i : S16x131072x1.Idx => BitVec.ofNat 32 (rank (key (i 0)) (i 1))) (b : Fin 16) (k : Fin 131072) (r : Fin 9) :
    (StableHlo.after hostOps3 V (Proc.devRef .tc main_v89) : IVec S16x131072x9 32) (ix3 b k r)
      = (V (Proc.devRef .tc main_v53) : IVec S16x9x131072 32) (ix3 b r (sorted (key b) k)) :=
  (congrFun (ops3_v89 V) (ix3 b k r)).trans (place_faces key _ _ (V (Proc.devRef .tc main_v53)) h69 b k r)

end Stretches

end Cert.KernelIdeal.Own
-- ==== Proof.Values.lean ====
/-
  What the kernel program ends with, in the reference's terms.
-/
module

public import proofs.«01_k».proof.Proof.Chain

@[expose] public section

set_option maxRecDepth 16384

noncomputable section

namespace Cert.KernelIdeal.Own

open Cert.KernelIdeal Cert.KernelIdeal.Gen Idealize.ShloMosaic Idealize.ShloMosaic.TcCoe Idealize.SL.Sem Cert.Own
open Cert.ReferenceIdeal.Value (res_main_v11 res_main_v25 res_main_v32 res_main_v43 res_main_v82)
open Cert.ReferenceIdeal.Own (vertexKey faceKey vertKey v25_at codes codes_at faceAt cornerAt faceWords)

section Kept
variable (V : (c : Dev nD) → Valuation τ sig (Elt Ideal)) (c : Dev nD)

theorem post0_out : post0 V c (Proc.devRef .tc main_v24) = (dat0 V c).arrAt 6 cfg0.N := upd_self (V c) main_v24 _
theorem post0_of (r : Ref sig .tc) (h : r ≠ main_v24) : post0 V c (Proc.devRef .tc r) = V c (Proc.devRef .tc r) := upd_ne (V c) main_v24 r _ h

theorem post1_out : post1 V c (Proc.devRef .tc main_v53) = (dat1 V c).arrAt 1 cfg1.N := upd_self (V c) main_v53 _
theorem post1_of (r : Ref sig .tc) (h : r ≠ main_v53) : post1 V c (Proc.devRef .tc r) = V c (Proc.devRef .tc r) := upd_ne (V c) main_v53 r _ h

theorem post2_out : post2 V c (Proc.devRef .tc main_v69) = (dat2 V c).arrAt 6 cfg2.N := upd_self (V c) main_v69 _
theorem post2_of (r : Ref sig .tc) (h : r ≠ main_v69) : post2 V c (Proc.devRef .tc r) = V c (Proc.devRef .tc r) := upd_ne (V c) main_v69 r _ h

theorem post3_out : post3 V c (Proc.devRef .tc main_v92) = (dat3 V c).arrAt 1 cfg3.N := upd_self (V c) main_v92 _
theorem post3_of (r : Ref sig .tc) (h : r ≠ main_v92) : post3 V c (Proc.devRef .tc r) = V c (Proc.devRef .tc r) := upd_ne (V c) main_v92 r _ h

/-- The first rank region on what the first stretch leaves. -/
theorem ranks0 (U : Valuation τ sig (Elt Ideal)) (hV : V c = StableHlo.after hostOps0 U) :
    (dat0 V c).arrAt 6 cfg0.N = fun i : S16x65536x1.Idx => BitVec.ofNat 32 (rank (vertexKey (normal (U (Proc.devRef .tc main_arg0))) (i 0)) (i 1)) :=
  out0_rank V c (vertexKey (normal (U (Proc.devRef .tc main_arg0)))) (fun b i => by rw [hV]; exact ops0_cols U b i) (fun b i => by rw [hV]; exact ops0_rows U b i)

/-- The second rank region on what the third stretch leaves. -/
theorem ranks2 (U : Valuation τ sig (Elt Ideal)) (hV : V c = StableHlo.after hostOps2 U) :
    (dat2 V c).arrAt 6 cfg2.N = fun i : S16x131072x1.Idx => BitVec.ofNat 32 (rank (faceKey (centre (U (Proc.devRef .tc main_v50))) (i 0)) (i 1)) :=
  out2_rank V c (faceKey (centre (U (Proc.devRef .tc main_v50)))) (fun b i => by rw [hV]; exact ops2_cols U b i) (fun b i => by rw [hV]; exact ops2_rows U b i)

end Kept

/-- The keys of a face's corners, read off its column. -/
theorem key_of (x0 : Vec Ideal S1x9x131072 .f32) (y : FVec Ideal S16x131072x3x3 .f32) (b : Fin 16)
    (h : ∀ (j d : Fin 3) (f : Fin 131072), x0 (ix3 0 (nine j d) f) = y (ix4 b f j d)) (f : Fin 131072) : cornerKey x0 f = vertKey y b f := by
  funext k
  exact Prod.ext (h k 2 f) (Prod.ext (h k 1 f) (h k 0 f))

/-- The face region's result on such columns. -/
theorem codes_of (x0 : Vec Ideal S1x9x131072 .f32) (y : FVec Ideal S16x131072x3x3 .f32) (b : Fin 16)
    (h : ∀ (j d : Fin 3) (f : Fin 131072), x0 (ix3 0 (nine j d) f) = y (ix4 b f j d)) (j d : Fin 3) (f : Fin 131072) :
    out1 x0 (ix3 0 (nine j d) f) = code (y (ix4 b f (sorted (vertKey y b f) j) d)) := by
  refine (out1_eq x0 j d f).trans ?_
  refine (congrArg code (h (sorted (cornerKey x0 f) j) d f)).trans ?_
  rw [key_of x0 y b h f]

/-- The row of codes, laid out three by three. -/
theorem square_of (V : Valuation τ sig (Elt Ideal)) (b : Fin 16) (k : Fin 131072) (j d : Fin 3) :
    shapeCast S16x131072x3x3 (StableHlo.after hostOps3 V (Proc.devRef .tc main_v90) : IVec S16x1179648 32) shapeCasts_S16x1179648_S16x131072x3x3 (ix4 b k j d)
      = (StableHlo.after hostOps3 V (Proc.devRef .tc main_v89) : IVec S16x131072x9 32) (ix3 b k (nine j d)) := by
  rw [ops3_v90]
  exact (congrFun (shapeCast_comp _ shapeCasts_S16x131072x9_S16x1179648 shapeCasts_S16x1179648_S16x131072x3x3) (ix4 b k j d)).trans (cast_square _ _ b k j d)

variable (m : (ℓ : Loc nD τ sig) → Buf (Elt Ideal) ℓ) (c : Dev nD) (R : Valuation Cert.ReferenceIdeal.τ Cert.ReferenceIdeal.sig (Elt Ideal))
  (h0 : V0 m c (Proc.devRef .tc main_arg0) = R (Proc.devRef .tc Cert.ReferenceIdeal.main_arg0))
  (h1 : V0 m c (Proc.devRef .tc main_arg1) = R (Proc.devRef .tc Cert.ReferenceIdeal.main_arg1))

include h0 in
/-- The scaled vertices are the reference's. -/
theorem W1_v11 : W1 m c (Proc.devRef .tc main_v11) = res_main_v11 R := by
  rw [ref_normal, ← h0]
  exact ops0_v11 (V0 m c)

include h0 in
/-- The first rank region leaves the vertices' ranks. -/
theorem W2_v24 : W2 m c (Proc.devRef .tc main_v24) = fun i : S16x65536x1.Idx => BitVec.ofNat 32 (rank (vertexKey (res_main_v11 R) (i 0)) (i 1)) := by
  refine (post0_out (W1 m) c).trans ((ranks0 (W1 m) c (V0 m c) rfl).trans ?_)
  rw [ref_normal, h0]

include h0 in
theorem W2_v11 : W2 m c (Proc.devRef .tc main_v11) = res_main_v11 R :=
  (post0_of (W1 m) c main_v11 (by decide)).trans (W1_v11 m c R h0)

include h1 in
theorem W2_arg1 : W2 m c (Proc.devRef .tc main_arg1) = R (Proc.devRef .tc Cert.ReferenceIdeal.main_arg1) :=
  (post0_of (W1 m) c main_arg1 (by decide)).trans ((V1_of m c main_arg1 (by decide)).trans h1)

include h0 h1 in
/-- The faces' corners are the reference's. -/
theorem W3_v50 : W3 m c (Proc.devRef .tc main_v50) = res_main_v32 R :=
  face_corners (W2 m c) R (W2_v11 m c R h0) (W2_v24 m c R h0) (W2_arg1 m c R h1)

include h0 h1 in
/-- And so are the rows the face region reads. -/
theorem batch_at (b : Fin 16) (j d : Fin 3) (f : Fin 131072) : batch1 (W3 m) c b (ix3 0 (nine j d) f) = res_main_v32 R (ix4 b f j d) :=
  (face_rows (W2 m c) b f j d).trans (congrFun (W3_v50 m c R h0 h1) (ix4 b f j d))

include h0 h1 in
/-- The face region leaves the codes of each face's corners in their order. -/
theorem W4_v53 (b : Fin 16) (j d : Fin 3) (f : Fin 131072) :
    (W4 m c (Proc.devRef .tc main_v53) : IVec S16x9x131072 32) (ix3 b (nine j d) f)
      = code (res_main_v32 R (ix4 b f (sorted (vertKey (res_main_v32 R) b f) j) d)) := by
  have e : W4 m c (Proc.devRef .tc main_v53) = fun i : S16x9x131072.Idx => out1 (batch1 (W3 m) c (i 0)) (ix3 0 (i 1) (i 2)) :=
    (post1_out (W3 m) c).trans (arr1 (W3 m) c)
  exact (congrFun e (ix3 b (nine j d) f)).trans (codes_of (batch1 (W3 m) c b) (res_main_v32 R) b (fun j d f => batch_at m c R h0 h1 b j d f) j d f)

include h0 h1 in
theorem W4_v50 : W4 m c (Proc.devRef .tc main_v50) = res_main_v32 R :=
  (post1_of (W3 m) c main_v50 (by decide)).trans (W3_v50 m c R h0 h1)

include h0 h1 in
/-- The second rank region leaves the faces' ranks. -/
theorem W6_v69 : W6 m c (Proc.devRef .tc main_v69) = fun i : S16x131072x1.Idx => BitVec.ofNat 32 (rank (faceKey (res_main_v43 R) (i 0)) (i 1)) := by
  refine (post2_out (W5 m) c).trans ((ranks2 (W5 m) c (W4 m c) rfl).trans ?_)
  rw [ref_centre, W4_v50 m c R h0 h1]

theorem W6_v53 : W6 m c (Proc.devRef .tc main_v53) = W4 m c (Proc.devRef .tc main_v53) :=
  (post2_of (W5 m) c main_v53 (by decide)).trans (StableHlo.after_of_writes_sub hostOps2 (W4 m c) hostOps2_writes (show main_v53 ∉ hostOps2_W by decide))

include h0 h1 in
/-- The scattered faces: each place holds the codes of its face. -/
theorem W7_v89 (hA : ∀ b f j, (faceWords R (ix3 b f j)).toNat < 65536) (b : Fin 16) (k : Fin 131072) (j d : Fin 3) :
    (W7 m c (Proc.devRef .tc main_v89) : IVec S16x131072x9 32) (ix3 b k (nine j d)) = codes R (ix4 b k j d) :=
  (sorted_faces (W6 m c) (faceKey (res_main_v43 R)) (W6_v69 m c R h0 h1) b k (nine j d)).trans
    ((congrFun (W6_v53 m c) _).trans ((W4_v53 m c R h0 h1 b j d (faceAt R b k)).trans (codes_at R hA b k j d).symm))

include h0 h1 in
/-- Laid out three by three they are the reference's codes. -/
theorem W7_square (hA : ∀ b f j, (faceWords R (ix3 b f j)).toNat < 65536) :
    shapeCast S16x131072x3x3 (W7 m c (Proc.devRef .tc main_v90) : IVec S16x1179648 32) shapeCasts_S16x1179648_S16x131072x3x3 = codes R := by
  funext i
  rw [eta4 i]
  exact (square_of (W6 m c) _ _ _ _).trans (W7_v89 m c R h0 h1 hA _ _ _ _)

end Cert.KernelIdeal.Own
-- ==== Proof.Results.lean ====
/-
  The kernel program's results, each equal to the reference's.
-/
module

public import proofs.«01_k».proof.Proof.Values

@[expose] public section

set_option maxRecDepth 16384

noncomputable section

namespace Cert.KernelIdeal.Own

open Cert.KernelIdeal Cert.KernelIdeal.Gen Idealize.ShloMosaic Idealize.ShloMosaic.TcCoe Idealize.SL.Sem Cert.Own
open Cert.ReferenceIdeal.Value (res_main_v32 res_main_v82 res_main_v83 res_main_v87 res_main_v88)
open Cert.ReferenceIdeal.Own (codes codes_at v82_eq faceWords faceAt cornerAt)

/-- The reconstruction of the codes as the reference writes it. -/
def recon (x : IVec S16x131072x3x3 32) : FVec Ideal S16x131072x3x3 .f32 :=
  addf (mulf (Host.divf (addf (sitofp .f32 x) (broadcastInDim S16x131072x3x3 ![] Cert.ReferenceIdeal.Gen.bcast_S_S16x131072x3x3 (constant S_ .f32 0x3F000000#32)))
    (broadcastInDim S16x131072x3x3 ![] Cert.ReferenceIdeal.Gen.bcast_S_S16x131072x3x3 (constant S_ .f32 0x43000000#32)))
    (broadcastInDim S16x131072x3x3 ![] Cert.ReferenceIdeal.Gen.bcast_S_S16x131072x3x3 (constant S_ .f32 0x40000000#32)))
    (broadcastInDim S16x131072x3x3 ![] Cert.ReferenceIdeal.Gen.bcast_S_S16x131072x3x3 (constant S_ .f32 0xBF800000#32))

/-- One code's reconstruction. -/
def back (w : BitVec 32) : EReal :=
  Ideal.div (((w.toInt : ℝ) : EReal) + Ideal.ofBits .f32 0x3F000000#32) (Ideal.ofBits .f32 0x43000000#32) * Ideal.ofBits .f32 0x40000000#32 + Ideal.ofBits .f32 0xBF800000#32

theorem recon_at (x : IVec S16x131072x3x3 32) (i : S16x131072x3x3.Idx) : recon x i = back (x i) := by
  pointwise [recon, back]
  rfl

/-- The last region stores each code's reconstruction. -/
theorem out3_at (x0 : Vec Ideal S1x9216x128 .i32) (i : S1x9216x128.Idx) : out3 x0 i = back (x0 i) := by
  pointwise [out3, k3_pay1, back]
  rfl

/-- An array of reconstructions, laid out otherwise. -/
theorem recon_cast (x : IVec S16x9216x128 32) (y : FVec Ideal S16x9216x128 .f32) (h : S16x9216x128.ShapeCasts S16x131072x3x3) (hy : ∀ k, y k = back (x k)) :
    shapeCast S16x131072x3x3 y h = recon (shapeCast S16x131072x3x3 x h) := by
  funext i
  rw [recon_at]
  exact hy _

/-- Equal middles make equal rows. -/
theorem row_congr {α : Type} (a a' e e' : S16x1.Idx → α) (b b' : S16x1179648.Idx → α) (h h') (ha : a = a') (he : e = e') (hb : b = b') :
    concatenate S16x1179650 1 [⟨S16x1, a⟩, ⟨S16x1179648, b⟩, ⟨S16x1, e⟩] h = concatenate S16x1179650 1 [⟨S16x1, a'⟩, ⟨S16x1179648, b'⟩, ⟨S16x1, e'⟩] h' := by
  subst ha he hb
  rfl

/-- The word of minus one, converted. -/
theorem minus_one : ((((4294967295#32 : BitVec 32).toInt : ℝ) : EReal)) = Ideal.ofBits .f32 0xBF800000#32 := by
  rw [show (4294967295#32 : BitVec 32).toInt = -1 from by decide]
  simp [Ideal.ofBits, Ideal.ieee]
  norm_num
  rw [← EReal.coe_one, ← EReal.coe_mul]
  norm_num

/-- The ends of the attention row. -/
theorem ends_eq : (sitofp (F := Ideal) .f32 (broadcastInDim S16x1 ![] bcast_S_S16x1 (constantI S_ 32 4294967295#32)) : FVec Ideal S16x1 .f32)
    = broadcastInDim S16x1 ![] Cert.ReferenceIdeal.Gen.bcast_S_S16x1 (constant (F := Ideal) S_ .f32 0xBF800000#32) := by
  funext i
  exact minus_one

/-- Where no word is minus one, the attention row is one. -/
theorem ones_eq (x : IVec S16x1179648 32) (hx : ∀ i, x i ≠ 4294967295#32) :
    (broadcastInDim S16x1179648 ![] bcast_S_S16x1179648 (constant (F := Ideal) S_ .f32 0x3F800000#32) : FVec Ideal S16x1179648 .f32)
      = uitofp .f32 (cmpi .ne x (broadcastInDim S16x1179648 ![] Cert.ReferenceIdeal.Gen.bcast_S_S16x1179648 (constantI S_ 32 4294967295#32))) := by
  funext i
  have e : (cmpi .ne x (broadcastInDim S16x1179648 ![] Cert.ReferenceIdeal.Gen.bcast_S_S16x1179648 (constantI S_ 32 4294967295#32))) i = 1#1 := by
    show IntOp.cmpi .ne (x i) 4294967295#32 = 1#1
    have h : (x i != 4294967295#32) = true := bne_iff_ne.mpr (hx i)
    show BitVec.ofBool (x i != 4294967295#32) = 1#1
    rw [h]
    rfl
  show Ideal.ofBits .f32 0x3F800000#32 = ((((cmpi .ne x (broadcastInDim S16x1179648 ![] Cert.ReferenceIdeal.Gen.bcast_S_S16x1179648 (constantI S_ 32 4294967295#32))) i).toNat : ℝ) : EReal)
  rw [e, Ideal.ofBits_one_f32]
  simp

variable (m : (ℓ : Loc nD τ sig) → Buf (Elt Ideal) ℓ) (c : Dev nD) (R : Valuation Cert.ReferenceIdeal.τ Cert.ReferenceIdeal.sig (Elt Ideal))
variable (h0 : V0 m c (Proc.devRef .tc main_arg0) = R (Proc.devRef .tc Cert.ReferenceIdeal.main_arg0))
variable (h1 : V0 m c (Proc.devRef .tc main_arg1) = R (Proc.devRef .tc Cert.ReferenceIdeal.main_arg1))
variable (hA : ∀ b f j, (faceWords R (ix3 b f j)).toNat < 65536)

include hA in
/-- No code is minus one. -/
theorem codes_ne (i : S16x131072x3x3.Idx) : codes R i ≠ 4294967295#32 := by
  rw [eta4 i]
  exact fun e => clip_ne _ ((codes_at R hA (i 0) (i 1) (i 2) (i 3)).symm.trans e)

theorem W8_v90 : W8 m c (Proc.devRef .tc main_v90) = W7 m c (Proc.devRef .tc main_v90) := post3_of (W7 m) c main_v90 (by decide)

include h0 h1 hA

/-- The third and fourth results: the codes. -/
theorem W9_v94 : W9 m c (Proc.devRef .tc main_v94) = codes R :=
  (ops4_v94 (W8 m c)).trans ((congrArg (fun z : IVec S16x1179648 32 => shapeCast S16x131072x3x3 z shapeCasts_S16x1179648_S16x131072x3x3) (W8_v90 m c)).trans (W7_square m c R h0 h1 hA))

/-- The codes in one row. -/
theorem W7_row : W7 m c (Proc.devRef .tc main_v90) = res_main_v83 R := by
  have e : ∀ (x : IVec S16x1179648 32) (y : IVec S16x131072x3x3 32) (h : S16x1179648.ShapeCasts S16x131072x3x3) (h' : S16x131072x3x3.ShapeCasts S16x1179648),
      shapeCast S16x131072x3x3 x h = y → x = shapeCast S16x1179648 y h' := fun x y h h' hxy => by
    subst hxy
    exact (shapeCast_shapeCast x h h').symm
  refine (e _ (codes R) _ Cert.ReferenceIdeal.Gen.shapeCasts_S16x131072x3x3_S16x1179648 (W7_square m c R h0 h1 hA)).trans ?_
  unfold res_main_v83
  rw [v82_eq R hA]
  rfl

/-- The first result: the row of codes between its ends. -/
theorem W9_v96 : W9 m c (Proc.devRef .tc main_v96)
    = concatenate S16x1179650 1 [⟨S16x1, (res_main_v87 R : IVec S16x1 32)⟩, ⟨S16x1179648, (res_main_v83 R : IVec S16x1179648 32)⟩, ⟨S16x1, (res_main_v87 R : IVec S16x1 32)⟩]
      Cert.ReferenceIdeal.Gen.concatenates_S16x1_S16x1179648_S16x1_S16x1179650_d1 :=
  (ops4_v96 (W8 m c)).trans (row_congr _ (res_main_v87 R) _ (res_main_v87 R) _ (res_main_v83 R) _ _ rfl rfl ((W8_v90 m c).trans (W7_row m c R h0 h1 hA)))

omit h0 h1 in
theorem row_ne (i : S16x1179648.Idx) : (res_main_v83 R : IVec S16x1179648 32) i ≠ 4294967295#32 := by
  have e : (res_main_v83 R : IVec S16x1179648 32) = shapeCast S16x1179648 (codes R) Cert.ReferenceIdeal.Gen.shapeCasts_S16x131072x3x3_S16x1179648 := by
    unfold res_main_v83
    rw [v82_eq R hA]
    rfl
  rw [e]
  exact codes_ne R hA _

omit h0 h1 in
/-- The second result: the attention row. -/
theorem W9_v99 : W9 m c (Proc.devRef .tc main_v99)
    = concatenate S16x1179650 1 [⟨S16x1, (res_main_v88 R : FVec Ideal S16x1 .f32)⟩,
        ⟨S16x1179648, (uitofp .f32 (cmpi .ne (res_main_v83 R : IVec S16x1179648 32) (broadcastInDim S16x1179648 ![] Cert.ReferenceIdeal.Gen.bcast_S_S16x1179648 (constantI S_ 32 4294967295#32))) : FVec Ideal S16x1179648 .f32)⟩,
        ⟨S16x1, (res_main_v88 R : FVec Ideal S16x1 .f32)⟩] Cert.ReferenceIdeal.Gen.concatenates_S16x1_S16x1179648_S16x1_S16x1179650_d1 :=
  (ops4_v99 (W8 m c)).trans (row_congr _ (res_main_v88 R) _ (res_main_v88 R) _ _ _ _ ends_eq ends_eq (ones_eq (res_main_v83 R) (row_ne R hA)))

omit h0 h1 hA in
/-- The last region leaves each code's reconstruction. -/
theorem W8_v92 (k : S16x9216x128.Idx) : (W8 m c (Proc.devRef .tc main_v92) : FVec Ideal S16x9216x128 .f32) k = back ((W7 m c (Proc.devRef .tc main_v91) : IVec S16x9216x128 32) k) := by
  have e : W8 m c (Proc.devRef .tc main_v92) = fun i : S16x9216x128.Idx => out3 (batch3 (W7 m) c (i 0)) (ix3 0 (i 1) (i 2)) :=
    (post3_out (W7 m) c).trans (arr3 (W7 m) c)
  have b : batch3 (W7 m) c (k 0) (ix3 0 (k 1) (k 2)) = (W7 m c (Proc.devRef .tc main_v91) : IVec S16x9216x128 32) k :=
    congrArg (W7 m c (Proc.devRef .tc main_v91) : IVec S16x9216x128 32) (eta3 k).symm
  exact (congrFun e k).trans ((out3_at _ _).trans (congrArg back b))

/-- The fifth result: the reconstruction. -/
theorem W9_v93 : W9 m c (Proc.devRef .tc main_v93) = recon (codes R) := by
  have sq : ∀ (x : IVec S16x1179648 32) (y : IVec S16x9216x128 32) (z : IVec S16x131072x3x3 32) (h h' h''), y = shapeCast S16x9216x128 x h → shapeCast S16x131072x3x3 x h' = z
      → shapeCast S16x131072x3x3 y h'' = z := fun x y z h h' h'' hy hz => by
    subst hy hz
    exact shapeCast_comp x h h''
  have e := sq _ _ (codes R) _ _ shapeCasts_S16x9216x128_S16x131072x3x3 (ops3_v91 (W6 m c)) (W7_square m c R h0 h1 hA)
  exact (ops4_v93 (W8 m c)).trans ((recon_cast _ _ _ (W8_v92 m c)).trans (congrArg recon e))

end Cert.KernelIdeal.Own
-- ==== Proof.Range.lean ====
/-
  What the range condition says of the face words.
-/
module

public import proofs.«01_k».proof.Pre_in_range
public import proofs.«01_k».proof.Proof.Gen.Pre_in_range
public import Idealize.ShloMosaic.Lib.ReduceAll
public import Idealize.ShloMosaic.Lib.Pipeline.ValueKit

@[expose] public section

set_option maxRecDepth 16384

noncomputable section

namespace Cert.Pre_in_range.Own

open Cert.Pre_in_range Idealize.ShloMosaic

/-- A word at least zero and below the number of vertices is that small read without sign. -/
theorem small_word (w : BitVec 32) (h : IntOp.andi (IntOp.cmpi .sge w 0#32) (IntOp.cmpi .slt w 65536#32) = 1#1) : w.toNat < 65536 := by
  obtain ⟨h0, h1⟩ := IntOp.andi_eq_one.mp h
  have g0 : (0#32 : BitVec 32).sle w = true := by
    cases e : (0#32 : BitVec 32).sle w with
    | true => rfl
    | false =>
      simp [IntOp.cmpi, e] at h0
  have g1 : w.slt 65536#32 = true := by
    cases e : w.slt 65536#32 with
    | true => rfl
    | false =>
      simp [IntOp.cmpi, e] at h1
  rw [BitVec.sle_eq_decide, decide_eq_true_eq] at g0
  rw [BitVec.slt_eq_decide, decide_eq_true_eq] at g1
  rw [show (0#32 : BitVec 32).toInt = 0 from by decide] at g0
  rw [show (65536#32 : BitVec 32).toInt = 65536 from by decide] at g1
  rw [BitVec.toInt_eq_toNat_cond] at g0 g1
  split at g0 <;> omega

/-- Under the range condition every face word names a vertex. -/
theorem word_lt (x : FVec Ideal S16x65536x3 .f32) (w : IVec S16x131072x3 32) (h : fn (F := Ideal) x w = fun _ => 1#1) (i : S16x131072x3.Idx) : (w i).toNat < 65536 := by
  have : Subsingleton S_.Idx := ⟨fun a b => funext fun k => k.elim0⟩
  exact small_word (w i) (Host.reduce_andi_all _ _ _ _ _ (congrFun h (fun k => k.elim0)) i)

end Cert.Pre_in_range.Own
-- ==== Proof.lean ====
/-
  The proof of `Cert.Claim`: the frames, and that the idealized kernel computes what the reference computes.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Run
public import proofs.«01_k».proof.Proof.RunBits
public import proofs.«01_k».proof.Proof.Results
public import proofs.«01_k».proof.Proof.Range
public import Idealize.ShloMosaic.Adequacy
public import Idealize.ShloMosaic.Init

@[expose] public section

noncomputable section

namespace Cert.Proof

open Idealize.ShloMosaic Idealize.SL.Sem Idealize.ShloMosaic.TcCoe

/-- The kernel's frame: its run read at the arguments and the semaphores. -/
theorem frame_kernel : Cert.quiescent_Kernel := fun m ρ _ =>
  (θ_run Cert.Kernel.defs _ _).mono (fun _ h => ⟨fun c => ⟨(h.1 c).1, (h.1 c).2.1⟩, h.2⟩) (Cert.Kernel.Own.run_main (F := Bits) m ρ)

/-- The idealized kernel's frame. -/
theorem frame_ideal : Cert.quiescent_KernelIdeal := fun m ρ _ =>
  (θ_run Cert.KernelIdeal.defs _ _).mono (fun _ h => ⟨fun c => ⟨(h.1 c).1, (h.1 c).2.1⟩, h.2⟩) (Cert.KernelIdeal.Own.run_main (F := Ideal) m ρ)

/-- The same under the range condition, which it does not need. -/
theorem frame_ideal_in_range : Cert.quiescent_KernelIdeal_pre_in_range := fun m ρ _ => frame_ideal m ρ trivial

/-- The reference's frame: no operation writes an argument, and it declares no semaphore. -/
theorem frame_reference : Cert.quiescent_ReferenceIdeal := fun m ρ _ =>
  (θ_run Cert.ReferenceIdeal.defs _ _).mono (fun r h => ⟨fun c => ⟨(h c).2.2.2.2.2.1, (h c).2.2.2.2.2.2⟩, sem_eq_zero_of_no_sems (by decide) r.2⟩)
    (Cert.ReferenceIdeal.Value.run (F := Ideal) m ρ)

/-- The same under the range condition, which it does not need. -/
theorem frame_reference_in_range : Cert.quiescent_ReferenceIdeal_pre_in_range := fun m ρ _ => frame_reference m ρ trivial

/-- On faces in range the idealized kernel's five results are the reference's, over the extended reals. -/
theorem algebraic : Cert.algebraic_KernelIdeal_ReferenceIdeal_pre_in_range := by
  intro m g m' g' hp hargs
  have h0 (c : Dev Cert.KernelIdeal.nD) : Cert.KernelIdeal.Gen.V0 m c (Proc.devRef .tc Cert.KernelIdeal.main_arg0)
      = StableHlo.launchContents m' c (Proc.devRef .tc Cert.ReferenceIdeal.main_arg0) := (hargs c).1.symm
  have h1 (c : Dev Cert.KernelIdeal.nD) : Cert.KernelIdeal.Gen.V0 m c (Proc.devRef .tc Cert.KernelIdeal.main_arg1)
      = StableHlo.launchContents m' c (Proc.devRef .tc Cert.ReferenceIdeal.main_arg1) := (hargs c).2.symm
  have hA (c : Dev Cert.KernelIdeal.nD) (b : Fin 16) (f : Fin 131072) (j : Fin 3) :
      (Cert.ReferenceIdeal.Own.faceWords (StableHlo.launchContents m' c) (ix3 b f j)).toNat < 65536 :=
    (congrArg BitVec.toNat (congrFun (hargs c).2 (ix3 b f j))).trans_lt (Cert.Pre_in_range.Own.word_lt _ _ (hp c) (ix3 b f j))
  refine ⟨fun c => Cert.KernelIdeal.Own.W9 m c Cert.KernelIdeal.main_v96, fun c => Cert.KernelIdeal.Own.W9 m c Cert.KernelIdeal.main_v99,
    fun c => Cert.KernelIdeal.Own.W9 m c Cert.KernelIdeal.main_v94, fun c => Cert.KernelIdeal.Own.W9 m c Cert.KernelIdeal.main_v94,
    fun c => Cert.KernelIdeal.Own.W9 m c Cert.KernelIdeal.main_v93, ?_, ?_⟩
  · exact (θ_run Cert.KernelIdeal.defs _ _).mono (fun _ h c =>
      let ⟨a0, a1, v93, v94, v96, v99⟩ := h.1 c
      ⟨v96, v99, v94, v94, v93, a0, a1⟩) (Cert.KernelIdeal.Own.run_main (F := Ideal) m g)
  · exact (θ_run Cert.ReferenceIdeal.defs _ _).mono (fun _ h c =>
      let ⟨v89, v90, v82, v80, v99, a0, a1⟩ := h c
      ⟨v89.trans (Cert.KernelIdeal.Own.W9_v96 m c _ (h0 c) (h1 c) (hA c)).symm,
        v90.trans (Cert.KernelIdeal.Own.W9_v99 m c _ (hA c)).symm,
        (v82.trans (Cert.ReferenceIdeal.Own.v82_eq _ (hA c))).trans (Cert.KernelIdeal.Own.W9_v94 m c _ (h0 c) (h1 c) (hA c)).symm,
        v80.trans (Cert.KernelIdeal.Own.W9_v94 m c _ (h0 c) (h1 c) (hA c)).symm,
        (v99.trans (congrArg Cert.KernelIdeal.Own.recon (Cert.ReferenceIdeal.Own.v82_eq _ (hA c)))).trans (Cert.KernelIdeal.Own.W9_v93 m c _ (h0 c) (h1 c) (hA c)).symm,
        a0, a1⟩) (Cert.ReferenceIdeal.Value.run (F := Ideal) m' g')

theorem claim : Cert.Claim := ⟨Cert.Kernel.Gen.facts, Cert.KernelIdeal.Gen.facts, Cert.ReferenceIdeal.Gen.facts, Cert.Pre_in_range.Gen.facts,
  frame_kernel, frame_ideal, frame_ideal_in_range, frame_reference, frame_reference_in_range, trivial, algebraic⟩

end Cert.Proof

end
